-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x512 : Shape := ⟨2, ![512, 512]⟩
abbrev S7x128x512 : Shape := ⟨3, ![7, 128, 512]⟩
abbrev S7 : Shape := ⟨1, ![7]⟩
abbrev S_ : Shape := ⟨0, ![]⟩
abbrev S1 : Shape := ⟨1, ![1]⟩
abbrev S1x128x512 : Shape := ⟨3, ![1, 128, 512]⟩
abbrev S128x512 : Shape := ⟨2, ![128, 512]⟩

abbrev nBuf : Space → Nat
  | .hbm => 3
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S1024x512, .f32⟩
  | .local _ .vmem, ⟨0, _⟩ => ⟨S1024x512, .f32⟩
  | .local _ .vmem, ⟨1, _⟩ => ⟨S512x512, .f32⟩
  | .local _ .vmem, ⟨2, _⟩ => ⟨S1024x512, .f32⟩
  | .local _ .vmem, ⟨3, _⟩ => ⟨S7x128x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v14 : BitVec 32 := Scalar.xori v2 c1_i32_5
  let c1_i32_7 : BitVec 32 := 1#32
  let v15 : BitVec 32 := Scalar.muli v14 c1_i32_7
  let v16 : BitVec 32 := Scalar.addi c0_i32 v15
  v16.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_8 : BitVec 32 := 2#32
  let v17 : BitVec 32 := Scalar.xori v2 c2_i32_8
  let c1_i32_10 : BitVec 32 := 1#32
  let v18 : BitVec 32 := Scalar.muli v17 c1_i32_10
  let v19 : BitVec 32 := Scalar.addi c0_i32_11 v18
  v19.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v20 : BitVec 32 := Scalar.xori v2 c3_i32
  let c1_i32_13 : BitVec 32 := 1#32
  let v21 : BitVec 32 := Scalar.muli v20 c1_i32_13
  let v22 : BitVec 32 := Scalar.addi c0_i32_14 v21
  v22.toNat
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_15 : BitVec 32 := 4#32
  let v23 : BitVec 32 := Scalar.xori v2 c4_i32_15
  let c1_i32_17 : BitVec 32 := 1#32
  let v24 : BitVec 32 := Scalar.muli v23 c1_i32_17
  let v25 : BitVec 32 := Scalar.addi c0_i32_18 v24
  v25.toNat
def k0_dev5 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v26 : BitVec 32 := Scalar.xori v2 c5_i32
  let c1_i32_20 : BitVec 32 := 1#32
  let v27 : BitVec 32 := Scalar.muli v26 c1_i32_20
  let v28 : BitVec 32 := Scalar.addi c0_i32_21 v27
  v28.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v29 : BitVec 32 := Scalar.xori v2 c6_i32
  let c1_i32_23 : BitVec 32 := 1#32
  let v30 : BitVec 32 := Scalar.muli v29 c1_i32_23
  let v31 : BitVec 32 := Scalar.addi c0_i32_24 v30
  v31.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v32 : BitVec 32 := Scalar.xori v2 c7_i32
  let c1_i32_26 : BitVec 32 := 1#32
  let v33 : BitVec 32 := Scalar.muli v32 c1_i32_26
  let v34 : BitVec 32 := Scalar.addi c0_i32_27 v33
  v34.toNat
def k0_off1 (d0 : Dev nD) (c6_i32_29 : BitVec 32) : Fin 2 → Nat :=
  let c4_i32_35 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v35 : BitVec 32 := Scalar.xori v2 c6_i32_29
  let c1_i32_30 : BitVec 32 := 1#32
  let v36 : BitVec 32 := Scalar.andi v35 c1_i32_30
  let c1_i32_31 : BitVec 32 := 1#32
  let v37 : BitVec 32 := Scalar.shrsi v35 c1_i32_31
  let c1_i32_32 : BitVec 32 := 1#32
  let v38 : BitVec 32 := Scalar.andi v37 c1_i32_32
  let v41 : BitVec 32 := Scalar.xori v36 v38
  let v42 : BitVec 32 := Scalar.muli c4_i32_35 v41
  let c2_i32_36 : BitVec 32 := 2#32
  let v43 : BitVec 32 := Scalar.muli c2_i32_36 v38
  let v44 : BitVec 32 := Scalar.addi v42 v43
  let c2_i32_33 : BitVec 32 := 2#32
  let v39 : BitVec 32 := Scalar.shrsi v35 c2_i32_33
  let c1_i32_34 : BitVec 32 := 1#32
  let v40 : BitVec 32 := Scalar.andi v39 c1_i32_34
  let v45 : BitVec 32 := Scalar.addi v44 v40
  let c128_i32 : BitVec 32 := 128#32
  let v46 : BitVec 32 := Scalar.muli v45 c128_i32
  let c0_i32_45 : BitVec 32 := 0#32
  ![v46.toNat, 0]
def k0_dev8 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_37 : BitVec 32 := 6#32
  let v47 : BitVec 32 := Scalar.xori v2 c6_i32_37
  let c1_i32_41 : BitVec 32 := 1#32
  let v48 : BitVec 32 := Scalar.muli v47 c1_i32_41
  let v49 : BitVec 32 := Scalar.addi c0_i32_42 v48
  v49.toNat
def k0_dev9 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_55 : BitVec 32 := 2#32
  let v69 : BitVec 32 := Scalar.xori v2 c2_i32_55
  let c1_i32_59 : BitVec 32 := 1#32
  let v70 : BitVec 32 := Scalar.muli v69 c1_i32_59
  let v71 : BitVec 32 := Scalar.addi c0_i32_60 v70
  v71.toNat
def k0_dev10 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_73 : BitVec 32 := 5#32
  let v91 : BitVec 32 := Scalar.xori v2 c5_i32_73
  let c1_i32_77 : BitVec 32 := 1#32
  let v92 : BitVec 32 := Scalar.muli v91 c1_i32_77
  let v93 : BitVec 32 := Scalar.addi c0_i32_78 v92
  v93.toNat
def k0_dev11 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_91 : BitVec 32 := 7#32
  let v113 : BitVec 32 := Scalar.xori v2 c7_i32_91
  let c1_i32_95 : BitVec 32 := 1#32
  let v114 : BitVec 32 := Scalar.muli v113 c1_i32_95
  let v115 : BitVec 32 := Scalar.addi c0_i32_96 v114
  v115.toNat
def k0_dev12 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_109 : BitVec 32 := 1#32
  let v135 : BitVec 32 := Scalar.xori v2 c1_i32_109
  let c1_i32_113 : BitVec 32 := 1#32
  let v136 : BitVec 32 := Scalar.muli v135 c1_i32_113
  let v137 : BitVec 32 := Scalar.addi c0_i32_114 v136
  v137.toNat
def k0_dev13 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_127 : BitVec 32 := 3#32
  let v157 : BitVec 32 := Scalar.xori v2 c3_i32_127
  let c1_i32_131 : BitVec 32 := 1#32
  let v158 : BitVec 32 := Scalar.muli v157 c1_i32_131
  let v159 : BitVec 32 := Scalar.addi c0_i32_132 v158
  v159.toNat
def k0_dev14 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_145 : BitVec 32 := 4#32
  let v179 : BitVec 32 := Scalar.xori v2 c4_i32_145
  let c1_i32_149 : BitVec 32 := 1#32
  let v180 : BitVec 32 := Scalar.muli v179 c1_i32_149
  let v181 : BitVec 32 := Scalar.addi c0_i32_150 v180
  v181.toNat
def k0_off2 (d0 : Dev nD) : Fin 2 → Nat :=
  let c4_i32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v9 : BitVec 32 := Scalar.muli c4_i32 v8
  let c2_i32_4 : BitVec 32 := 2#32
  let v10 : BitVec 32 := Scalar.muli c2_i32_4 v5
  let v11 : BitVec 32 := Scalar.addi v9 v10
  let c2_i32 : BitVec 32 := 2#32
  let v6 : BitVec 32 := Scalar.shrsi v2 c2_i32
  let c1_i32_3 : BitVec 32 := 1#32
  let v7 : BitVec 32 := Scalar.andi v6 c1_i32_3
  let v12 : BitVec 32 := Scalar.addi v11 v7
  let c128_i32_154 : BitVec 32 := 128#32
  let v189 : BitVec 32 := Scalar.muli v12 c128_i32_154
  let v190 : Index := Scalar.indexCast v189
  let c0 : Index := 0#32
  ![v190.toNat, 0]
def k0_off3 (d0 : Dev nD) : Fin 2 → Nat :=
  let c4_i32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v9 : BitVec 32 := Scalar.muli c4_i32 v8
  let c2_i32_4 : BitVec 32 := 2#32
  let v10 : BitVec 32 := Scalar.muli c2_i32_4 v5
  let v11 : BitVec 32 := Scalar.addi v9 v10
  let c2_i32 : BitVec 32 := 2#32
  let v6 : BitVec 32 := Scalar.shrsi v2 c2_i32
  let c1_i32_3 : BitVec 32 := 1#32
  let v7 : BitVec 32 := Scalar.andi v6 c1_i32_3
  let v12 : BitVec 32 := Scalar.addi v11 v7
  let c128_i32_252 : BitVec 32 := 128#32
  let v284 : BitVec 32 := Scalar.muli v12 c128_i32_252
  let c0_i32_258 : BitVec 32 := 0#32
  ![v284.toNat, 0]
def k0_dev15 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_253 : BitVec 32 := 6#32
  let v285 : BitVec 32 := Scalar.xori v2 c6_i32_253
  let c1_i32_256 : BitVec 32 := 1#32
  let v286 : BitVec 32 := Scalar.muli v285 c1_i32_256
  let v287 : BitVec 32 := Scalar.addi c0_i32_257 v286
  v287.toNat
def k0_dev16 (d0 : Dev nD) : Nat :=
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_262 : BitVec 32 := 2#32
  let v296 : BitVec 32 := Scalar.xori v2 c2_i32_262
  let c1_i32_265 : BitVec 32 := 1#32
  let v297 : BitVec 32 := Scalar.muli v296 c1_i32_265
  let v298 : BitVec 32 := Scalar.addi c0_i32_266 v297
  v298.toNat
def k0_dev17 (d0 : Dev nD) : Nat :=
  let c0_i32_275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_271 : BitVec 32 := 5#32
  let v307 : BitVec 32 := Scalar.xori v2 c5_i32_271
  let c1_i32_274 : BitVec 32 := 1#32
  let v308 : BitVec 32 := Scalar.muli v307 c1_i32_274
  let v309 : BitVec 32 := Scalar.addi c0_i32_275 v308
  v309.toNat
def k0_dev18 (d0 : Dev nD) : Nat :=
  let c0_i32_284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_280 : BitVec 32 := 7#32
  let v318 : BitVec 32 := Scalar.xori v2 c7_i32_280
  let c1_i32_283 : BitVec 32 := 1#32
  let v319 : BitVec 32 := Scalar.muli v318 c1_i32_283
  let v320 : BitVec 32 := Scalar.addi c0_i32_284 v319
  v320.toNat
def k0_dev19 (d0 : Dev nD) : Nat :=
  let c0_i32_293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_289 : BitVec 32 := 1#32
  let v329 : BitVec 32 := Scalar.xori v2 c1_i32_289
  let c1_i32_292 : BitVec 32 := 1#32
  let v330 : BitVec 32 := Scalar.muli v329 c1_i32_292
  let v331 : BitVec 32 := Scalar.addi c0_i32_293 v330
  v331.toNat
def k0_dev20 (d0 : Dev nD) : Nat :=
  let c0_i32_302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_298 : BitVec 32 := 3#32
  let v340 : BitVec 32 := Scalar.xori v2 c3_i32_298
  let c1_i32_301 : BitVec 32 := 1#32
  let v341 : BitVec 32 := Scalar.muli v340 c1_i32_301
  let v342 : BitVec 32 := Scalar.addi c0_i32_302 v341
  v342.toNat
def k0_dev21 (d0 : Dev nD) : Nat :=
  let c0_i32_311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_307 : BitVec 32 := 4#32
  let v351 : BitVec 32 := Scalar.xori v2 c4_i32_307
  let c1_i32_310 : BitVec 32 := 1#32
  let v352 : BitVec 32 := Scalar.muli v351 c1_i32_310
  let v353 : BitVec 32 := Scalar.addi c0_i32_311 v352
  v353.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x512 : Shape := ⟨2, ![8192, 512]⟩
abbrev S512x512 : Shape := ⟨2, ![512, 512]⟩
abbrev S8x1024x512 : Shape := ⟨3, ![8, 1024, 512]⟩
abbrev S_ : Shape := ⟨0, ![]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S8x1024x512, .f32⟩
  | .hbm, ⟨3, _⟩ => ⟨S_, .f32⟩
  | .hbm, ⟨4, _⟩ => ⟨S1024x512, .f32⟩
  | .hbm, ⟨5, _⟩ => ⟨S1024x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.IdealMesh.lean ====
/-
The mesh of the kernel: eight devices, the seven peers of each, and the rows each device reduces.

Device `c` meets the device `peer i c = c xor (i + 1)`, `i = 0 … 6`; each `peer i` is an involution without fixed
points, and the seven peers of `c` are all the other devices. Device `c` reduces and publishes chunk `chunkOf c`
of eight chunks of 128 rows; `chunkOf` is a bijection.
-/
module

public import proofs.«01_k».proof.Proof.Gen.KernelIdeal

@[expose] public section

noncomputable section

namespace Cert.KernelIdeal.Own

open Cert.KernelIdeal Cert.KernelIdeal.Gen
open Idealize.ShloMosaic Idealize.SL.Sem

/-- The device that differs from `c` by the mask `i + 1`. -/
def peer (i : Fin 7) (c : Dev nD) : Dev nD :=
  ⟨c.val ^^^ (i.val + 1), by revert c i; decide⟩

/-- The chunk of 128 rows that device `c` reduces. -/
def chunkOf (c : Dev nD) : Fin 8 :=
  ⟨4 * ((c.val + c.val / 2) % 2) + 2 * (c.val / 2 % 2) + c.val / 4, by revert c; decide⟩

/-- The device that reduces chunk `q`. -/
def ownerOf (q : Fin 8) : Dev nD :=
  ⟨4 * (q.val % 2) + 2 * (q.val / 2 % 2) + (q.val / 4 + q.val / 2) % 2, by revert q; decide⟩

theorem peer_peer (i : Fin 7) (c : Dev nD) : peer i (peer i c) = c := by revert c i; decide
theorem peer_ne (i : Fin 7) (c : Dev nD) : peer i c ≠ c := by revert c i; decide
theorem peer_inj (c : Dev nD) : Function.Injective fun i => peer i c := by revert c; decide
theorem ownerOf_chunkOf (c : Dev nD) : ownerOf (chunkOf c) = c := by revert c; decide
theorem chunkOf_ownerOf (q : Fin 8) : chunkOf (ownerOf q) = q := by revert q; decide
theorem chunkOf_inj : Function.Injective chunkOf := Function.LeftInverse.injective ownerOf_chunkOf

/-- `peer i` as a permutation of the devices. -/
def swap (i : Fin 7) : Dev nD ≃ Dev nD := ⟨peer i, peer i, peer_peer i, peer_peer i⟩

/-- Device `c`'s peer along every mask at once, the mask kept: a permutation of pairs. -/
def swaps : Dev nD × Fin 7 ≃ Dev nD × Fin 7 :=
  ⟨fun x => (peer x.2 x.1, x.2), fun x => (peer x.2 x.1, x.2), fun x => by simp only [peer_peer],
    fun x => by simp only [peer_peer]⟩

/-- A device is `c` itself or exactly one of its peers: the eight devices listed from `c`. -/
def around (c : Dev nD) : Option (Fin 7) ≃ Dev nD :=
  Equiv.ofBijective (fun o => o.elim c fun i => peer i c)
    (by rw [Fintype.bijective_iff_injective_and_card]
        refine ⟨?_, by decide⟩
        rintro (_ | i) (_ | j) h
        · rfl
        · exact absurd h.symm (peer_ne j c)
        · exact absurd h (peer_ne i c)
        · exact congrArg some (peer_inj c h))

/-! ## The device numbers and row offsets the program computes -/

/-- Row offset of chunk `q`. -/
abbrev rowOff (q : Fin 8) : Fin 2 → Nat := ![128 * q.val, 0]

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 3 c := by revert c; decide +kernel
theorem dev5_eq (c : Dev nD) : (⟨k0_dev5 c, k0_dev5_lt c⟩ : Dev nD) = peer 4 c := by revert c; decide +kernel
theorem dev6_eq (c : Dev nD) : (⟨k0_dev6 c, k0_dev6_lt c⟩ : Dev nD) = peer 5 c := by revert c; decide +kernel
theorem dev7_eq (c : Dev nD) : (⟨k0_dev7 c, k0_dev7_lt c⟩ : Dev nD) = peer 6 c := by revert c; decide +kernel
theorem dev8_eq (c : Dev nD) : (⟨k0_dev8 c, k0_dev8_lt c⟩ : Dev nD) = peer 5 c := by revert c; decide +kernel
theorem dev9_eq (c : Dev nD) : (⟨k0_dev9 c, k0_dev9_lt c⟩ : Dev nD) = peer 1 c := by revert c; decide +kernel
theorem dev10_eq (c : Dev nD) : (⟨k0_dev10 c, k0_dev10_lt c⟩ : Dev nD) = peer 4 c := by revert c; decide +kernel
theorem dev11_eq (c : Dev nD) : (⟨k0_dev11 c, k0_dev11_lt c⟩ : Dev nD) = peer 6 c := by revert c; decide +kernel
theorem dev12_eq (c : Dev nD) : (⟨k0_dev12 c, k0_dev12_lt c⟩ : Dev nD) = peer 0 c := by revert c; decide +kernel
theorem dev13_eq (c : Dev nD) : (⟨k0_dev13 c, k0_dev13_lt c⟩ : Dev nD) = peer 2 c := by revert c; decide +kernel
theorem dev14_eq (c : Dev nD) : (⟨k0_dev14 c, k0_dev14_lt c⟩ : Dev nD) = peer 3 c := by revert c; decide +kernel
theorem dev15_eq (c : Dev nD) : (⟨k0_dev15 c, k0_dev15_lt c⟩ : Dev nD) = peer 5 c := by revert c; decide +kernel
theorem dev16_eq (c : Dev nD) : (⟨k0_dev16 c, k0_dev16_lt c⟩ : Dev nD) = peer 1 c := by revert c; decide +kernel
theorem dev17_eq (c : Dev nD) : (⟨k0_dev17 c, k0_dev17_lt c⟩ : Dev nD) = peer 4 c := by revert c; decide +kernel
theorem dev18_eq (c : Dev nD) : (⟨k0_dev18 c, k0_dev18_lt c⟩ : Dev nD) = peer 6 c := by revert c; decide +kernel
theorem dev19_eq (c : Dev nD) : (⟨k0_dev19 c, k0_dev19_lt c⟩ : Dev nD) = peer 0 c := by revert c; decide +kernel
theorem dev20_eq (c : Dev nD) : (⟨k0_dev20 c, k0_dev20_lt c⟩ : Dev nD) = peer 2 c := by revert c; decide +kernel
theorem dev21_eq (c : Dev nD) : (⟨k0_dev21 c, k0_dev21_lt c⟩ : Dev nD) = peer 3 c := by revert c; decide +kernel

/-- The offset named for the mask `i + 1` is that of the peer's chunk; -/
theorem off1_eq (c : Dev nD) (i : Fin 7) : k0_off1 c (BitVec.ofNat 32 (1 + i.val)) = rowOff (chunkOf (peer i c)) := by
  have h : ∀ (c : Dev nD) (i : Fin 7) (a : Fin 2),
      k0_off1 c (BitVec.ofNat 32 (1 + i.val)) a = rowOff (chunkOf (peer i c)) a := by decide +kernel
  exact funext (h c i)
/-- the other two name the device's own chunk. -/
theorem off2_eq (c : Dev nD) : k0_off2 c = rowOff (chunkOf c) := by
  have h : ∀ (c : Dev nD) (a : Fin 2), k0_off2 c a = rowOff (chunkOf c) a := by decide +kernel
  exact funext (h c)
theorem off3_eq (c : Dev nD) : k0_off3 c = rowOff (chunkOf c) := by
  have h : ∀ (c : Dev nD) (a : Fin 2), k0_off3 c a = rowOff (chunkOf c) a := by decide +kernel
  exact funext (h c)

end Cert.KernelIdeal.Own

end
-- ==== Proof.IdealProto.lean ====
/-
The protocol of the kernel, as a schedule of the rounds library, and the contents it moves.

A device has 29 cells: the barrier semaphore, and for each mask `i = 0 … 6` a send and a receive semaphore of the
scattering phase and of the gathering phase. Every cell has one round. The barrier's round has seven duties, one unit
each: the peer along mask `i` hands over its landing slot `i` and the rows of its result buffer that the device will
fill. A send cell gives the device its source back; a receive cell gives it what arrived.

Stated for any float values, so that the same text serves the frame and the value claim.
-/
module

public import proofs.«01_k».proof.Proof.IdealMesh
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Transfers
public import Idealize.ShloMosaic.Lib.Ring
public import Idealize.ShloMosaic.Lib.Tactic

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Ghost state: the pipeline's staging rounds, and this protocol's, whose duties are numbered by masks. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## Buffers, their chunks and slots -/

abbrev xM : Memref sig .tc .vmem S1024x512 .f32 := Memref.whole cc0_stg0_0
abbrev wM : Memref sig .tc .vmem S512x512 .f32 := Memref.whole cc0_stg1_0
abbrev oM : Memref sig .tc .vmem S1024x512 .f32 := Memref.whole cc0_stg2_0
abbrev rM : Memref sig .tc .vmem S7x128x512 .f32 := Memref.whole cc0_scratch0

theorem row_inb (q : Fin 8) : ∀ a, rowOff q a + S128x512.size a ≤ S1024x512.size a := by
  revert q; decide +kernel
abbrev slotOff (i : Fin 7) : Fin 3 → Nat := ![i.val, 0, 0]
theorem slot_inb (i : Fin 7) : ∀ a, slotOff i a + S1x128x512.size a ≤ S7x128x512.size a := by
  revert i; decide +kernel

/-- The rows of chunk `q`. -/
abbrev rowRect (q : Fin 8) : Rect S1024x512 := Rect.unit (rowOff q) S128x512.size (row_inb q)
/-- Landing slot `i`. -/
abbrev slotRect (i : Fin 7) : Rect S7x128x512 := Rect.unit (slotOff i) S1x128x512.size (slot_inb i)

/-- Chunk `q` of the operand, and of the result. -/
abbrev xChunk (q : Fin 8) : Memref sig .tc .vmem S128x512 .f32 := xM.slice (rowRect q) (fun _ => rfl)
abbrev oChunk (q : Fin 8) : Memref sig .tc .vmem S128x512 .f32 := oM.slice (rowRect q) (fun _ => rfl)
/-- Landing slot `i`, its unit axis dropped. -/
abbrev slotM (i : Fin 7) : Memref sig .tc .vmem S128x512 .f32 :=
  (rM.slice (slotRect i) (fun _ => rfl)).squeeze S128x512 squeezes_S1x128x512_S128x512

/-- The elements of chunk `q`. -/
def rows (q : Fin 8) : Finset S1024x512.Idx := (rowRect q).set
/-- The elements of slot `i`. -/
def slots (i : Fin 7) : Finset S7x128x512.Idx := (slotRect i).set

theorem xChunk_set (q : Fin 8) : (xChunk q).view.set = rows q := View.set_slice_whole _ _
theorem oChunk_set (q : Fin 8) : (oChunk q).view.set = rows q := View.set_slice_whole _ _
theorem slotM_set (i : Fin 7) : (slotM i).view.set = slots i :=
  (View.set_reshape _ _).trans (View.set_slice_whole _ _)

theorem rows_disjoint (q q' : Fin 8) (h : q ≠ q') : Disjoint (rows q) (rows q') :=
  Ring.lead_disjoint (s := S1024x512) (0 : Fin 2) 128 rowOff S128x512.size row_inb (fun _ => rfl) rfl q q' h
theorem rows_cover : Finset.univ.biUnion rows = Finset.univ :=
  Ring.lead_cover (s := S1024x512) (0 : Fin 2) 128 rowOff S128x512.size row_inb (fun _ => rfl)
    (fun b a ha => by fin_cases a; exact absurd rfl ha; rfl) rfl
    (fun a ha => by fin_cases a; exact absurd rfl ha; rfl) rfl
theorem slots_disjoint (i j : Fin 7) (h : i ≠ j) : Disjoint (slots i) (slots j) :=
  Ring.lead_disjoint (s := S7x128x512) (0 : Fin 3) 1 slotOff S1x128x512.size slot_inb (fun _ => (Nat.one_mul _).symm) rfl i j h
theorem slots_cover : Finset.univ.biUnion slots = Finset.univ :=
  Ring.lead_cover (s := S7x128x512) (0 : Fin 3) 1 slotOff S1x128x512.size slot_inb (fun _ => (Nat.one_mul _).symm)
    (fun b a ha => by fin_cases a; exact absurd rfl ha; rfl; rfl) rfl
    (fun a ha => by fin_cases a; exact absurd rfl ha; rfl; rfl) rfl

/-! ## Cells -/

/-- The runtime's barrier semaphore. -/
abbrev barS : Sem sig := (SemArray.scalar (sig.barrier 0 rfl) : Sems sig S_).sem

/-- The four families of DMA semaphores, by number: scatter send, scatter receive, gather send, gather receive. -/
def dS (a : Fin 4) (i : Fin 7) : DmaSem sig := ⟨3 + 7 * a.val + i.val, by revert a i; decide⟩

/-- A device's cells: the barrier, and the four families. -/
abbrev CK : Type := Unit ⊕ Fin 4 × Fin 7
abbrev csem : CK → SemLoc sig := fun | .inl _ => .reg barS | .inr x => .dma (dS x.1 x.2)
/-- The scoped ones, as the launch indexes them. -/
abbrev osem : Fin 4 × Fin 7 → SemLoc sig := fun x => .dma (dS x.1 x.2)

abbrev barCell (c : Dev nD) : GSem nD τ sig := ((c : Thread nD τ), .reg barS)
abbrev dCell (a : Fin 4) (i : Fin 7) (c : Dev nD) : GSem nD τ sig := ((c : Thread nD τ), .dma (dS a i))
abbrev kcell (ck : Dev nD × CK) : GSem nD τ sig := ((ck.1 : Thread nD τ), csem ck.2)

theorem dS_inj : Function.Injective fun x : Fin 4 × Fin 7 => dS x.1 x.2 := by decide +kernel
theorem csem_inj : Function.Injective csem := by
  rintro (_ | x) (_ | y) h
  · rfl
  · cases h
  · cases h
  · exact congrArg Sum.inr (dS_inj (SemLoc.dma.inj h))
theorem kcell_inj : Function.Injective kcell := by
  rintro ⟨c, k⟩ ⟨c', k'⟩ h
  have h1 : c = c' := congrArg (fun g : GSem nD τ sig => g.1.1) h
  have h2 : csem k = csem k' := congrArg Prod.snd h
  rw [h1, csem_inj h2]

/-- What a chunk's transfer credits. -/
abbrev N : ℕ := (slotM 0).view.dmaCredit
theorem N_pos : 0 < N := View.dmaCredit_pos _ (by decide)

/-! ## Contents -/

/-- Device `c`'s operand block and weights, as staged. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- Element `x` of chunk `q`, in the whole. -/
def rowIx (q : Fin 8) (x : S128x512.Idx) : S1024x512.Idx := (rowRect q).emb x

/-- The landing slots of device `c` once all has arrived: slot `i` holds its peer's rows of chunk `chunkOf c`. -/
def landed (c : Dev nD) : (cc0_scratch0 : Ref sig .tc).ty.Contents (Elt F) :=
  fun y => xstg m ρ (peer (y (0 : Fin 3)) c) (rowIx (chunkOf c) (fun a => match a with | 0 => y (1 : Fin 3) | 1 => y (2 : Fin 3)))

/-- What device `c` loads: its own rows, and slot `i`. -/
def ownVal (c : Dev nD) : Vec F S128x512 .f32 := fun x => xstg m ρ c (rowIx (chunkOf c) x)
def slotVal (c : Dev nD) (i : Fin 7) : Vec F S1x128x512 .f32 := fun y => landed m ρ c ((slotRect i).emb y)

/-- The chunk device `c` computes: its own rows and its peers', summed in the kernel's order, times the weights. -/
def result (c : Dev nD) : Vec F S128x512 .f32 :=
  k0_pay4 (k0_pay3 (k0_pay2 (k0_pay1 (ownVal m ρ c) (slotVal m ρ c 0)) (slotVal m ρ c 2) (slotVal m ρ c 3))
    (slotVal m ρ c 1) (slotVal m ρ c 4) (slotVal m ρ c 6)) (slotVal m ρ c 5) (wstg m ρ c)

/-- The chunk and the place in it of an element of the whole. -/
def chunkAt (y : S1024x512.Idx) : Fin 8 := ⟨(y (0 : Fin 2)).val / 128, by have : (y (0 : Fin 2)).val < 1024 := (y (0 : Fin 2)).isLt; omega⟩
def placeAt (y : S1024x512.Idx) : S128x512.Idx := fun a => match a with
  | 0 => (⟨(y (0 : Fin 2)).val % 128, Nat.mod_lt _ (by decide)⟩ : Fin 128)
  | 1 => y (1 : Fin 2)

/-- The result every device ends with: chunk `q` is what its owner computed. -/
def finalOut : (cc0_stg2_0 : Ref sig .tc).ty.Contents (Elt F) :=
  fun y => result m ρ (ownerOf (chunkAt y)) (placeAt y)

theorem rowIx_val0 (q : Fin 8) (x : S128x512.Idx) : (rowIx q x (0 : Fin 2)).val = 128 * q.val + (x (0 : Fin 2)).val := by
  unfold rowIx; exact ValueKit.rect_emb_unit_val (s := S1024x512) (rowOff q) S128x512.size (row_inb q) x 0
theorem rowIx_val1 (q : Fin 8) (x : S128x512.Idx) : (rowIx q x (1 : Fin 2)).val = (x (1 : Fin 2)).val := by
  unfold rowIx; exact (ValueKit.rect_emb_unit_val (s := S1024x512) (rowOff q) S128x512.size (row_inb q) x 1).trans (Nat.zero_add _)

theorem chunkAt_rowIx (q : Fin 8) (x : S128x512.Idx) : chunkAt (rowIx q x) = q := by
  have hx : (x (0 : Fin 2)).val < 128 := (x (0 : Fin 2)).isLt
  refine Fin.ext ?_
  show (rowIx q x (0 : Fin 2)).val / 128 = q.val
  rw [rowIx_val0]; omega
theorem placeAt_rowIx (q : Fin 8) (x : S128x512.Idx) : placeAt (rowIx q x) = x := by
  have hx : (x (0 : Fin 2)).val < 128 := (x (0 : Fin 2)).isLt
  funext a
  fin_cases a
  · refine Fin.ext ?_
    show (rowIx q x (0 : Fin 2)).val % 128 = (x (0 : Fin 2)).val
    rw [rowIx_val0]; omega
  · exact Fin.ext (rowIx_val1 q x)

/-- Chunk `chunkOf c` of the result is what device `c` computed. -/
theorem finalOut_rowIx (c : Dev nD) (x : S128x512.Idx) : finalOut m ρ (rowIx (chunkOf c) x) = result m ρ c x := by
  unfold finalOut; rw [chunkAt_rowIx, placeAt_rowIx, ownerOf_chunkOf]

/-! ## What is held -/

/-- Chunk `q` of device `c`'s operand. -/
def xPts (c : Dev nD) (q : Fin 8) : sProp 𝕄 := ((c : Thread nD τ).loc cc0_stg0_0) ↦[rows q]{fullShare} xstg m ρ c
/-- Chunk `q` of device `c`'s result buffer, at share `sh` and contents `f`. -/
def oPts (c : Dev nD) (q : Fin 8) (sh : PosShare TreeShare) (f : (cc0_stg2_0 : Ref sig .tc).ty.Contents (Elt F)) : sProp 𝕄 :=
  ((c : Thread nD τ).loc cc0_stg2_0) ↦[rows q]{sh} f
/-- Slot `i` of device `c` at contents `f`. -/
def sPts (c : Dev nD) (i : Fin 7) (f : (cc0_scratch0 : Ref sig .tc).ty.Contents (Elt F)) : sProp 𝕄 :=
  ((c : Thread nD τ).loc cc0_scratch0) ↦[slots i]{fullShare} f

omit [FloatOps F] in
instance xPts_storable (c : Dev nD) (q) : BI.Storable (upEmb : UEmb _ 𝕄) (xPts (F := F) m ρ c q) := by unfold xPts; infer_instance
omit [FloatOps F] in
instance oPts_storable (c : Dev nD) (q sh f) : BI.Storable (upEmb : UEmb _ 𝕄) (oPts (F := F) c q sh f) := by unfold oPts; infer_instance
omit [FloatOps F] in
instance sPts_storable (c : Dev nD) (i f) : BI.Storable (upEmb : UEmb _ 𝕄) (sPts (F := F) c i f) := by unfold sPts; infer_instance

/-- The share of its own chunk that a device lends to its gathering send `i`: one of the seven the full share is dealt into. -/
def lent (i : Fin 7) : PosShare TreeShare := Transfers.dealOf fullShare (Finset.univ : Finset (Fin 7)) i

/-! ## The schedule -/

/-- What the peer along mask `i` hands device `c` at the barrier: its slot `i`, and its rows of chunk `chunkOf c`. -/
def barPay (c : Dev nD) (i : Fin 7) : sProp 𝕄 :=
  iprop((∃ f, sPts (peer i c) i f) ∗ ∃ f, oPts (peer i c) (chunkOf c) fullShare f)

/-- What a DMA cell of device `c` hands it. -/
def dmaPay (a : Fin 4) (i : Fin 7) (c : Dev nD) : sProp 𝕄 := match a with
  | 0 => xPts m ρ c (chunkOf (peer i c))
  | 1 => sPts c i (landed m ρ c)
  | 2 => oPts c (chunkOf c) (lent i) (finalOut m ρ)
  | 3 => oPts c (chunkOf (peer i c)) fullShare (finalOut m ρ)

/-- The family and mask of a DMA semaphore of the protocol (others: the staging semaphores). -/
def famOf (q : DmaSem sig) : Fin 4 := ⟨(q.val - 3) / 7 % 4, Nat.mod_lt _ (by decide)⟩
def maskOf (q : DmaSem sig) : Fin 7 := ⟨(q.val - 3) % 7, Nat.mod_lt _ (by decide)⟩
theorem famOf_dS (a : Fin 4) (i : Fin 7) : famOf (dS a i) = a := by revert a i; decide
theorem maskOf_dS (a : Fin 4) (i : Fin 7) : maskOf (dS a i) = i := by revert a i; decide

/-- One round a cell: at the barrier one unit from every peer, at a DMA cell one chunk's credit. -/
def sched : Rounds.Schedule (GSem nD τ sig) (Fin 7) 𝕄 where
  duties g r := if r = 0 ∧ g.1.2 = .tc then (match g.2 with
    | .reg _ => Finset.univ
    | .dma _ => {0}) else ∅
  unitless _ := False
  amount g _ _ := match g.2 with
    | .reg _ => 1
    | .dma _ => N
  payload g _ d := match g.2 with
    | .reg _ => barPay g.1.1 d
    | .dma q => dmaPay m ρ (famOf q) (maskOf q) g.1.1
  amount_pos g _ _ _ := by
    rcases g with ⟨_, _ | _⟩
    · exact Nat.one_pos
    · exact N_pos

instance sched_payload_storable (g : GSem nD τ sig) (r : ℕ) (d : Fin 7) :
    BI.Storable (upEmb : UEmb _ 𝕄) ((sched (F := F) m ρ).payload g r d) := by
  rcases g with ⟨⟨c, _⟩, q | q⟩
  · show BI.Storable upEmb (barPay c d); unfold barPay; infer_instance
  · show BI.Storable upEmb (dmaPay m ρ (famOf q) (maskOf q) c)
    generalize famOf q = a
    fin_cases a <;> (unfold dmaPay; infer_instance)

section Tables
variable (c : Dev nD) (a : Fin 4) (i : Fin 7)

theorem duties_bar : (sched (F := F) m ρ).duties (barCell c) 0 = Finset.univ := by dsimp only [sched]; exact if_pos ⟨rfl, rfl⟩
theorem duties_dma : (sched (F := F) m ρ).duties (dCell a i c) 0 = {0} := by dsimp only [sched]; exact if_pos ⟨rfl, rfl⟩
theorem duties_later (g : GSem nD τ sig) : ∀ r, 1 ≤ r → (sched (F := F) m ρ).duties g r = ∅ :=
  fun r hr => if_neg fun h => by have := h.1; omega
theorem amount_bar (d : Fin 7) : (sched (F := F) m ρ).amount (barCell c) 0 d = 1 := rfl
theorem amount_dma (d : Fin 7) : (sched (F := F) m ρ).amount (dCell a i c) 0 d = N := rfl
theorem payload_bar (d : Fin 7) : (sched (F := F) m ρ).payload (barCell c) 0 d = barPay c d := rfl
theorem payload_dma (d : Fin 7) : (sched (F := F) m ρ).payload (dCell a i c) 0 d = dmaPay m ρ a i c := by
  show dmaPay m ρ (famOf (dS a i)) (maskOf (dS a i)) c = _
  rw [famOf_dS, maskOf_dS]

theorem expect_bar : (sched (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_dma : (sched (F := F) m ρ).expect (dCell a i c) 0 = N := by
  unfold Schedule.expect Schedule.amountOf; rw [duties_dma, Finset.sum_singleton, amount_dma]

theorem rest_bar : bigSep ((sched (F := F) m ρ).duties (barCell c) 0 \ ∅) (fun d => (sched (F := F) m ρ).payload (barCell c) 0 d)
    = bigSep Finset.univ fun d => barPay c d := by
  rw [Finset.sdiff_empty, duties_bar]; rfl
theorem rest_dma : bigSep ((sched (F := F) m ρ).duties (dCell a i c) 0 \ ∅) (fun d => (sched (F := F) m ρ).payload (dCell a i c) 0 d)
    = dmaPay m ρ a i c := by
  rw [Finset.sdiff_empty, duties_dma, bigSep_singleton, payload_dma]

end Tables

end Cert.KernelIdeal.Own

end
-- ==== Proof.IdealSteps.lean ====
/-
The steps of the kernel's body, one rule per kind of statement, for a symbolic device `c` and a symbolic mask `i`.

What a phase of the body holds is a family over the masks: before the statement for mask `i` the family has `A i`, after
it `B i`. A rule takes the goal with the family at the masks still to come, `S`, to the goal at `S` without `i`.
-/
module

public import proofs.«01_k».proof.Proof.IdealProto

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Contents after each transfer -/

/-- Slot `i` of the peer along mask `i`, once device `c`'s rows of the peer's chunk have landed there. -/
theorem scattered (c : Dev nD) (i : Fin 7) (fd : (cc0_scratch0 : Ref sig .tc).ty.Contents (Elt F)) :
    ∀ y ∈ slots i, (slotM i).view.write (Elt F) fd ((xChunk (chunkOf (peer i c))).view.read (Elt F) (xstg m ρ c)) Finset.univ y
      = landed m ρ (peer i c) y := by
  intro y hy
  rw [← slotM_set] at hy
  obtain ⟨x, -, rfl⟩ := Finset.mem_map.mp hy
  have hx : (slotM i).view.emb x = (slotRect i).emb (Shape.reshapeEquiv (s := S1x128x512) (s' := S128x512) rfl x) := rfl
  have hr : Shape.reshapeEquiv (s := S1x128x512) (s' := S128x512) rfl x = Fin.cons ⟨0, Nat.one_pos⟩ x :=
    Shape.reshapeEquiv_cons_one rfl x
  rw [View.write_emb_of_mem _ _ (Finset.mem_univ x)]
  show xstg m ρ c (rowIx (chunkOf (peer i c)) x) = landed m ρ (peer i c) ((slotM i).view.emb x)
  rw [hx, hr]
  have e0 : ((slotRect i).emb (Fin.cons ⟨0, Nat.one_pos⟩ x : S1x128x512.Idx)) (0 : Fin 3) = i :=
    Fin.ext ((ValueKit.rect_emb_unit_val (s := S7x128x512) (slotOff i) S1x128x512.size (slot_inb i) _ 0).trans (Nat.add_zero _))
  have e1 : ((slotRect i).emb (Fin.cons ⟨0, Nat.one_pos⟩ x : S1x128x512.Idx)) (1 : Fin 3) = x (0 : Fin 2) :=
    Fin.ext ((ValueKit.rect_emb_unit_val (s := S7x128x512) (slotOff i) S1x128x512.size (slot_inb i) _ 1).trans (Nat.zero_add _))
  have e2 : ((slotRect i).emb (Fin.cons ⟨0, Nat.one_pos⟩ x : S1x128x512.Idx)) (2 : Fin 3) = x (1 : Fin 2) :=
    Fin.ext ((ValueKit.rect_emb_unit_val (s := S7x128x512) (slotOff i) S1x128x512.size (slot_inb i) _ 2).trans (Nat.zero_add _))
  unfold landed
  rw [e0, peer_peer]
  refine congrArg (fun z => xstg m ρ c (rowIx (chunkOf (peer i c)) z)) ?_
  funext a
  match a with
  | 0 => exact e1.symm
  | 1 => exact e2.symm

/-- A chunk read from the final result and written to the same chunk elsewhere is the final result there. -/
theorem gathered (q : Fin 8) (fd : (cc0_stg2_0 : Ref sig .tc).ty.Contents (Elt F)) :
    ∀ y ∈ rows q, (oChunk q).view.write (Elt F) fd ((oChunk q).view.read (Elt F) (finalOut m ρ)) Finset.univ y = finalOut m ρ y := by
  intro y hy
  rw [← oChunk_set] at hy
  obtain ⟨x, -, rfl⟩ := Finset.mem_map.mp hy
  rw [View.write_emb_of_mem _ _ (Finset.mem_univ x)]
  rfl

/-- Device `c`'s chunk, stored, is the final result there. -/
theorem stored (c : Dev nD) (f : (cc0_stg2_0 : Ref sig .tc).ty.Contents (Elt F)) :
    ∀ y ∈ rows (chunkOf c), (oM.access (rowRect (chunkOf c))).write (Elt F) f (result m ρ c) Finset.univ y = finalOut m ρ y := by
  intro y hy
  rw [← oChunk_set] at hy
  obtain ⟨x, -, rfl⟩ := Finset.mem_map.mp hy
  refine (View.write_emb_of_mem (v := oM.access (rowRect (chunkOf c))) _ _ (Finset.mem_univ x)).trans ?_
  exact (finalOut_rowIx m ρ c x).symm

/-- What a load of slot `i` reads. -/
theorem read_slot (c : Dev nD) (i : Fin 7) : (rM.access (slotRect i)).read (Elt F) (landed m ρ c) = slotVal m ρ c i := rfl
/-- What a load of device `c`'s own rows reads. -/
theorem read_own (c : Dev nD) : (xM.access (rowRect (chunkOf c))).read (Elt F) (xstg m ρ c) = ownVal m ρ c := rfl

/-! ## Families over the masks -/

/-- `A` at the masks in `S`, `B` at the others. -/
def fam (S : Finset (Fin 7)) (A B : Fin 7 → sProp 𝕄) : sProp 𝕄 := bigSep Finset.univ fun i => if i ∈ S then A i else B i

omit [FloatOps F] in
theorem fam_univ (A B : Fin 7 → sProp 𝕄) : fam Finset.univ A B = bigSep Finset.univ A :=
  bigSep_congr fun i _ => if_pos (Finset.mem_univ i)
omit [FloatOps F] in
theorem fam_empty {S : Finset (Fin 7)} (h : S = ∅) (A B : Fin 7 → sProp 𝕄) : fam S A B = bigSep Finset.univ B := by
  subst h; exact bigSep_congr fun i _ => if_neg (Finset.notMem_empty i)

omit [FloatOps F] in
/-- One mask's share, taken and replaced. -/
theorem fam_flip {S : Finset (Fin 7)} {i : Fin 7} (hi : i ∈ S) (A B : Fin 7 → sProp 𝕄) :
    fam S A B ⊢ iprop(A i ∗ (B i -∗ fam (S.erase i) A B)) := by
  unfold fam
  rw [bigSep_univ_at (fun j => if j ∈ S then A j else B j) i, bigSep_univ_at (fun j => if j ∈ S.erase i then A j else B j) i,
    if_pos hi, if_neg (Finset.notMem_erase i S),
    bigSep_congr (s := Finset.univ.erase i) (Φ := fun j => if j ∈ S.erase i then A j else B j) (Ψ := fun j => if j ∈ S then A j else B j) fun j hj => by
      simp only [Finset.mem_erase, Finset.ne_of_mem_erase hj, ne_eq, not_false_eq_true, true_and]]
  iintro ⟨HA, HR⟩
  isplitl [HA]; · iexact HA
  iintro HB
  isplitl [HB]; · iexact HB
  iexact HR

omit [FloatOps F] in
/-- A share past its statement, borrowed. -/
theorem fam_done {S : Finset (Fin 7)} {i : Fin 7} (hi : i ∉ S) (A B : Fin 7 → sProp 𝕄) :
    fam S A B ⊢ iprop(B i ∗ (B i -∗ fam S A B)) := by
  unfold fam
  rw [bigSep_univ_at (fun j => if j ∈ S then A j else B j) i, if_neg hi]
  iintro ⟨HB, HR⟩
  isplitl [HB]; · iexact HB
  iintro HB
  isplitl [HB]; · iexact HB
  iexact HR

/-! ## What is owed -/

/-- `n` owed at each cell `g i`, `i ∈ S`. -/
def oSum (g : Fin 7 → GSem nD τ sig) (n : ℕ) (S : Finset (Fin 7)) : CellTallies nD τ sig Unit := ∑ i ∈ S, tallyAt (g i) () n

theorem oSum_erase (g : Fin 7 → GSem nD τ sig) (n : ℕ) {S : Finset (Fin 7)} {i : Fin 7} (hi : i ∈ S) :
    oSum g n S = oSum g n (S.erase i) + tallyAt (g i) () n := (Finset.sum_erase_add S _ hi).symm
theorem oSum_empty (g : Fin 7 → GSem nD τ sig) (n : ℕ) {S : Finset (Fin 7)} (h : S = ∅) : oSum g n S = 0 := by
  subst h; exact Finset.sum_empty

/-- The units for the peers' barriers, the chunks for their slots, the chunks for their results. -/
abbrev oBar (c : Dev nD) (S : Finset (Fin 7)) : CellTallies nD τ sig Unit := oSum (fun i => barCell (peer i c)) 1 S
abbrev oScat (c : Dev nD) (S : Finset (Fin 7)) : CellTallies nD τ sig Unit := oSum (fun i => dCell 1 i (peer i c)) N S
abbrev oGath (c : Dev nD) (S : Finset (Fin 7)) : CellTallies nD τ sig Unit := oSum (fun i => dCell 3 i (peer i c)) N S

/-- What device `c` owes at launch. -/
def O₀ (c : Dev nD) : CellTallies nD τ sig Unit := oGath c Finset.univ + oScat c Finset.univ + oBar c Finset.univ

/-- The wait order: a device waits only on cells below all it still owes. -/
def L (g : GSem nD τ sig) : Finset Unit := if g.1.2 = .tc then {()} else ∅
def lvS (sm : SemLoc sig) : ℕ := match sm with
  | .reg _ => 1
  | .dma q => if 3 ≤ q.val then (if famOf q = 1 then 2 else if famOf q = 3 then 3 else 0) else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lvS_dS (a : Fin 4) (i : Fin 7) : lvS (.dma (dS a i)) = if a = 1 then 2 else if a = 3 then 3 else 0 := by
  revert a i; decide

/-- All that is owed in `O` is on cores, at cells above level `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0
theorem Above.tally {n k : ℕ} {g₀ : GSem nD τ sig} (htc : g₀.1.2 = .tc) (hl : n < lvS g₀.2) : Above n (tallyAt g₀ () k) := by
  intro g u hg
  rw [tallyAt_apply] at hg
  by_cases h : g = g₀ ∧ u = ()
  · rw [h.1]; exact ⟨htc, hl⟩
  · rw [if_neg h] at hg; exact absurd hg (Nat.lt_irrefl 0)
theorem Above.sum {n k : ℕ} {g : Fin 7 → GSem nD τ sig} (htc : ∀ i, (g i).1.2 = .tc) (hl : ∀ i, n < lvS (g i).2) (S : Finset (Fin 7)) :
    Above n (oSum g k S) := by
  unfold oSum
  induction S using Finset.induction_on with
  | empty => rw [Finset.sum_empty]; exact Above.zero n
  | insert i S hi ih => rw [Finset.sum_insert hi]; exact (Above.tally (htc i) (hl i)).add ih

theorem above_gath (c : Dev nD) (S : Finset (Fin 7)) : Above 2 (oGath c S) :=
  Above.sum (fun _ => rfl) (fun i => by rw [lvS_dS]; decide) S
theorem above_scat (c : Dev nD) (S : Finset (Fin 7)) : Above 1 (oScat c S) :=
  Above.sum (fun _ => rfl) (fun i => by rw [lvS_dS]; decide) S
theorem above_bar (c : Dev nD) (S : Finset (Fin 7)) : Above 0 (oBar c S) :=
  Above.sum (fun _ => rfl) (fun i => Nat.one_pos) S
theorem Above.mono {n n' : ℕ} {O : CellTallies nD τ sig Unit} (hn : n' ≤ n) (h : Above n O) : Above n' O :=
  fun g u hg => ⟨(h g u hg).1, lt_of_le_of_lt hn (h g u hg).2⟩
theorem above_O₀ (c : Dev nD) : Above 0 (O₀ c) :=
  (((above_gath c _).mono (by decide)).add ((above_scat c _).mono (by decide))).add (above_bar c _)

omit [FloatOps F] in
/-- A cell may be waited on when all that is owed lies above it. -/
theorem mayWait (c : Dev nD) (sm : SemLoc sig) {n : ℕ} (hsm : lvS sm ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

/-! ## The shared facts -/

/-- Every cell's invariant, that it has reached its round, and the wait order. -/
def env (K : Dev nD × CK → ℕ) : sProp 𝕄 :=
  iprop((bigSep Finset.univ fun ck : Dev nD × CK => iprop(cellInv ER (sched m ρ) (K ck) (kcell ck) ∗ reached ER (kcell ck) 0)) ∗ levAts L lv)

instance env_persistent (K : Dev nD × CK → ℕ) : BI.Persistent (env (F := F) m ρ K) := by unfold env; infer_instance

theorem env_cell (K : Dev nD × CK → ℕ) (ck : Dev nD × CK) :
    env m ρ K ⊢ iprop(cellInv ER (sched m ρ) (K ck) (kcell ck) ∗ reached ER (kcell ck) 0) := by
  unfold env
  exact ((BI.sep_and (M := 𝕄)).trans BI.and_elimL).trans (bigSep_elim (Finset.mem_univ ck))

/-- What is owed, the waits made being of no account. -/
def owesE (c : Dev nD) (O : CellTallies nD τ sig Unit) : sProp 𝕄 := iprop(∃ W, owes (c : Thread nD τ) O W)

/-! ## The rules -/

section Rules

variable (K : Dev nD × CK → ℕ) (c : Dev nD)

abbrev WP {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Before and after the signal to the peer along mask `i`. -/
def barA (i : Fin 7) : sProp 𝕄 := iprop(dutyTok ER (barCell (peer i c)) 0 i ∗ barPay (peer i c) i)
def barB (_ : Fin 7) : sProp 𝕄 := iprop(emp)

theorem step_signal {n : Dev nD} (i : Fin 7) (hn : n = peer i c) {S : Finset (Fin 7)} (hi : i ∈ S) {O : CellTallies nD τ sig Unit}
    {s : Sem sig} (hs : s = barS) {k' : ℤ} (hk : k' = ((1 : ℕ) : ℤ))
    {R : sProp 𝕄} {α : Type} {Q : α → sProp 𝕄} {k : PUnit → Prog (TpuEff nD τ sig (Elt F) Λ₀ .tc) α}
    (h : iprop(env m ρ K ∗ owesE c (O + oBar c (S.erase i)) ∗ fam (S.erase i) (barA c) barB ∗ R) ⊢ WP c (k ⟨⟩) Q) :
    iprop(env m ρ K ∗ owesE c (O + oBar c S) ∗ fam S (barA c) barB ∗ R) ⊢ WP c (.op (.semSignal (n : Thread nD τ) s k') k) Q := by
  subst hn; subst hs; subst hk
  unfold owesE
  iintro ⟨#HE, ⟨%W, HO⟩, HF, HR⟩
  ihave HF := (fam_flip hi (barA c) barB) $$ HF
  icases HF with ⟨HA, HF⟩
  unfold barA
  icases HA with ⟨HT, HP⟩
  ihave HC := (env_cell m ρ K (peer i c, .inl ())) $$ HE
  icases HC with ⟨#HI, #HV⟩
  rw [show oBar c S = oBar c (S.erase i) + tallyAt (barCell (peer i c)) () 1 from oSum_erase (fun i => barCell (peer i c)) 1 hi, ← add_assoc]
  iapply (Rounds.wp_signal 𝒱₀ ER (sched m ρ) (c : Thread nD τ) none (dst := (peer i c : Thread nD τ)) (κ := K (peer i c, .inl ()))
      (d := i) (by rw [duties_bar]; exact Finset.mem_univ _) (amount_bar m ρ (peer i c) i) () (O + oBar c (S.erase i)) rfl)
    $$ [HO HT HP]
  · isplitr; · iexact HI
    isplitl [HO]; · iexact HO
    isplitl [HT]; · iexact HT
    isplitl [HP]; · rw [payload_bar]; iexact HP
    iexact HV
  iintro HO
  iapply h
  isplitr; · iexact HE
  isplitl [HO]; · unfold owesE; iexists W; iexact HO
  isplitl [HF]; · iapply HF; unfold barB; iempintro
  iexact HR

/-- The barrier: seven units waited for, what the seven peers hand over in return. -/
theorem step_barrier {O : CellTallies nD τ sig Unit} (hO : Above 1 O) {s : Sem sig} (hs : s = barS) {k' : ℤ} (hk : k' = ((7 : ℕ) : ℤ))
    {R : sProp 𝕄} {α : Type} {Q : α → sProp 𝕄} {k : PUnit → Prog (TpuEff nD τ sig (Elt F) Λ₀ .tc) α}
    (h : iprop(env m ρ K ∗ owesE c O ∗ atPos ER (barCell c) 1 ∅ 0 ∗ bigSep Finset.univ (barPay c) ∗ R) ⊢ WP c (k ⟨⟩) Q) :
    iprop(env m ρ K ∗ owesE c O ∗ (cred (tallyAt (barCell c) () 7) ∗ atPos ER (barCell c) 0 ∅ 0) ∗ R)
      ⊢ WP c (.op (.semWait s k') k) Q := by
  subst hs; subst hk
  unfold owesE
  iintro ⟨#HE, ⟨%W, HO⟩, ⟨HC, HA⟩, HR⟩
  ihave HC' := (env_cell m ρ K (c, .inl ())) $$ HE
  icases HC' with ⟨#HI, -⟩
  iapply (Rounds.wp_wait_rest_token 𝒱₀ ER (sched m ρ) (c : Thread nD τ) none (κ := K (c, .inl ()))
      (wpE_semWait_eq 𝒱₀ (c : Thread nD τ) none Set.univ) (Set.mem_univ _) () (O := O) (W := W) (R := 0) (m := 0) (T := ∅)
      (by rw [expect_bar])) $$ [HC HO HA]
  · isplitr; · iexact HI
    isplitl [HC]; · iexact HC
    isplitl [HO]; · iexact HO
    isplitr
    · iapply (mayWait c (.reg barS) (n := 1) (Nat.le_refl 1) hO)
      unfold env; icases HE with ⟨-, #HL⟩; iexact HL
    iexact HA
  iintro ⟨HO, HA, -, HP⟩
  ihave HP := (Entails.of_eq (rest_bar m ρ c)) $$ HP
  iapply h
  isplitr; · iexact HE
  isplitl [HO]; · unfold owesE; iexists _; iexact HO
  isplitl [HA]; · iexact HA
  isplitl [HP]; · iexact HP
  iexact HR

/-- Before and after the wait on the cell of family `a`, mask `i`. -/
def waitA (a : Fin 4) (i : Fin 7) : sProp 𝕄 := iprop(cred (tallyAt (dCell a i c) () N) ∗ atPos ER (dCell a i c) 0 ∅ 0)
def waitB (a : Fin 4) (i : Fin 7) : sProp 𝕄 := iprop(dmaPay m ρ a i c ∗ atPos ER (dCell a i c) 1 ∅ 0)

theorem step_wait (a : Fin 4) (i : Fin 7) {S : Finset (Fin 7)} (hi : i ∈ S) {O : CellTallies nD τ sig Unit} {lev : ℕ}
    (hl : (if a = 1 then 2 else if a = 3 then 3 else 0) ≤ lev) (hO : Above lev O)
    {s : DmaSem sig} (hs : s = dS a i)
    {sp sp' : Space} {sh sh' : Shape} {e e' : EltTy} {src : Memref sig .tc sp' sh' e'} {dst : Memref sig .tc sp sh e}
    {hsrc : src.view.WordExact} {hdst : dst.view.WordExact} (hN : dst.view.dmaCredit = N)
    {R : sProp 𝕄} {α : Type} {Q : α → sProp 𝕄} {k : PUnit → Prog (TpuEff nD τ sig (Elt F) Λ₀ .tc) α}
    (h : iprop(env m ρ K ∗ owesE c O ∗ fam (S.erase i) (waitA c a) (waitB m ρ c a) ∗ R) ⊢ WP c (k ⟨⟩) Q) :
    iprop(env m ρ K ∗ owesE c O ∗ fam S (waitA c a) (waitB m ρ c a) ∗ R) ⊢ WP c (.op (.waitDma2 s src dst hsrc hdst) k) Q := by
  subst hs
  unfold owesE
  iintro ⟨#HE, ⟨%W, HO⟩, HF, HR⟩
  ihave HF := (fam_flip hi (waitA c a) (waitB m ρ c a)) $$ HF
  icases HF with ⟨HA, HF⟩
  unfold waitA
  icases HA with ⟨HC, HA⟩
  ihave HC' := (env_cell m ρ K (c, .inr (a, i))) $$ HE
  icases HC' with ⟨#HI, -⟩
  iapply (Rounds.wp_wait_rest_token 𝒱₀ ER (sched m ρ) (c : Thread nD τ) none (κ := K (c, .inr (a, i)))
      (wpE_waitDma2_eq 𝒱₀ (c : Thread nD τ) none Set.univ) (Set.mem_univ _) () (O := O) (W := W) (R := 0) (m := 0) (T := ∅)
      (by rw [Nat.zero_add, hN]; exact (expect_dma m ρ c a i).symm)) $$ [HC HO HA]
  · isplitr; · iexact HI
    isplitl [HC]; · rw [hN]; iexact HC
    isplitl [HO]; · iexact HO
    isplitr
    · iapply (mayWait c (.dma (dS a i)) (n := lev) (by rw [lvS_dS]; exact hl) hO)
      unfold env; icases HE with ⟨-, #HL⟩; iexact HL
    iexact HA
  iintro ⟨HO, HA, -, HP⟩
  ihave HP := (Entails.of_eq (rest_dma m ρ c a i)) $$ HP
  iapply h
  isplitr; · iexact HE
  isplitl [HO]; · unfold owesE; iexists _; iexact HO
  isplitl [HF HP HA]
  · iapply HF; unfold waitB
    isplitl [HP]; · iexact HP
    iexact HA
  iexact HR

/-- Before and after the scattering transfer along mask `i`. -/
def scatA (i : Fin 7) : sProp 𝕄 :=
  iprop(xPts m ρ c (chunkOf (peer i c)) ∗ (∃ f, sPts (peer i c) i f) ∗ dutyTok ER (dCell 0 i c) 0 0 ∗ dutyTok ER (dCell 1 i (peer i c)) 0 0)
/-- Before and after the gathering transfer along mask `i`. -/
def gathA (i : Fin 7) : sProp 𝕄 :=
  iprop(oPts c (chunkOf c) (lent i) (finalOut m ρ) ∗ (∃ f, oPts (peer i c) (chunkOf c) fullShare f)
    ∗ dutyTok ER (dCell 2 i c) 0 0 ∗ dutyTok ER (dCell 3 i (peer i c)) 0 0)
def sentB (a : Fin 4) (i : Fin 7) : sProp 𝕄 := cred (tallyAt (dCell a i c) () N)

theorem step_scatter {n : Dev nD} (i : Fin 7) (hn : n = peer i c) {S : Finset (Fin 7)} (hi : i ∈ S) {O : CellTallies nD τ sig Unit}
    {s₁ s₂ : DmaSem sig} (hs₁ : s₁ = dS 0 i) (hs₂ : s₂ = dS 1 i)
    {src : Memref sig .tc .vmem S128x512 .f32} (hsrc : src = xChunk (chunkOf (peer i c)))
    {dst : Memref sig (n : Thread nD τ).2.kind .vmem S128x512 .f32} (hdst : dst = slotM i)
    {hsc : dst.view.ref.isScScratch = false} {hws : src.view.WordExact} {hwd : dst.view.WordExact}
    {hsem : DmaTarget.Typed .vmem (.dma s₂) (.remote (n : Thread nD τ) dst (.dma s₁) hsc)}
    {R : sProp 𝕄} {α : Type} {Q : α → sProp 𝕄} {k : PUnit → Prog (TpuEff nD τ sig (Elt F) Λ₀ .tc) α}
    (h : iprop(env m ρ K ∗ owesE c (O + oScat c (S.erase i)) ∗ fam (S.erase i) (scatA m ρ c) (sentB c 0) ∗ R) ⊢ WP c (k ⟨⟩) Q) :
    iprop(env m ρ K ∗ owesE c (O + oScat c S) ∗ fam S (scatA m ρ c) (sentB c 0) ∗ R)
      ⊢ WP c (.op (.enqueueDma src (.remote (n : Thread nD τ) dst (.dma s₁) hsc) (.dma s₂) hws hwd hsem) k) Q := by
  subst hn; subst hs₁; subst hs₂; subst hsrc; subst hdst
  unfold owesE
  iintro ⟨#HE, ⟨%W, HO⟩, HF, HR⟩
  ihave HF := (fam_flip hi (scatA m ρ c) (sentB c 0)) $$ HF
  icases HF with ⟨HA, HF⟩
  unfold scatA
  icases HA with ⟨HX, ⟨%fd, HD⟩, HT₁, HT₂⟩
  ihave HC₁ := (env_cell m ρ K (c, .inr (0, i))) $$ HE
  icases HC₁ with ⟨#HI₁, #HV₁⟩
  ihave HC₂ := (env_cell m ρ K (peer i c, .inr (1, i))) $$ HE
  icases HC₂ with ⟨#HI₂, #HV₂⟩
  rw [show oScat c S = oScat c (S.erase i) + tallyAt (dCell 1 i (peer i c)) () N from oSum_erase (fun i => dCell 1 i (peer i c)) N hi, ← add_assoc]
  unfold xPts sPts
  iapply (Rounds.wp_send_pointsTo 𝒱₀ ER (sched m ρ) (c : Thread nD τ) none (κ₁ := K (c, .inr (0, i))) (κ₂ := K (peer i c, .inr (1, i)))
      (r₁ := 0) (r₂ := 0) (d₁ := 0) (d₂ := 0) (c' := (peer i c : Thread nD τ)) (src := xChunk (chunkOf (peer i c))) (dst := slotM i) (fd := fd)
      (by rw [duties_dma]; exact Finset.mem_singleton_self _) (by rw [duties_dma]; exact Finset.mem_singleton_self _)
      () () N rfl (amount_dma m ρ c 0 i 0) (amount_dma m ρ (peer i c) 1 i 0) (O + oScat c (S.erase i)) rfl (W := W)
      (by rw [payload_dma, xChunk_set]; unfold dmaPay xPts; exact BI.Entails.refl _)
      (by rw [payload_dma, slotM_set]; unfold dmaPay sPts; exact Entails.of_eq (pointsTo_congr (scattered m ρ c i fd))))
    $$ [HX HD HO HT₁ HT₂]
  · isplitr; · iexact HI₁
    isplitr; · iexact HI₂
    isplitl [HX]; · rw [xChunk_set]; iexact HX
    isplitl [HD]; · rw [slotM_set]; iexact HD
    isplitl [HO]; · iexact HO
    isplitl [HT₁]; · iexact HT₁
    isplitr; · iexact HV₁
    isplitl [HT₂]; · iexact HT₂
    iexact HV₂
  iintro ⟨HC, HO⟩
  iapply h
  isplitr; · iexact HE
  isplitl [HO]; · unfold owesE; iexists W; iexact HO
  isplitl [HF HC]; · iapply HF; unfold sentB; iexact HC
  iexact HR

theorem step_gather {n : Dev nD} (i : Fin 7) (hn : n = peer i c) {S : Finset (Fin 7)} (hi : i ∈ S) {O : CellTallies nD τ sig Unit}
    {s₁ s₂ : DmaSem sig} (hs₁ : s₁ = dS 2 i) (hs₂ : s₂ = dS 3 i)
    {src : Memref sig .tc .vmem S128x512 .f32} (hsrc : src = oChunk (chunkOf c))
    {dst : Memref sig (n : Thread nD τ).2.kind .vmem S128x512 .f32} (hdst : dst = oChunk (chunkOf c))
    {hsc : dst.view.ref.isScScratch = false} {hws : src.view.WordExact} {hwd : dst.view.WordExact}
    {hsem : DmaTarget.Typed .vmem (.dma s₂) (.remote (n : Thread nD τ) dst (.dma s₁) hsc)}
    {R : sProp 𝕄} {α : Type} {Q : α → sProp 𝕄} {k : PUnit → Prog (TpuEff nD τ sig (Elt F) Λ₀ .tc) α}
    (h : iprop(env m ρ K ∗ owesE c (O + oGath c (S.erase i)) ∗ fam (S.erase i) (gathA m ρ c) (sentB c 2) ∗ R) ⊢ WP c (k ⟨⟩) Q) :
    iprop(env m ρ K ∗ owesE c (O + oGath c S) ∗ fam S (gathA m ρ c) (sentB c 2) ∗ R)
      ⊢ WP c (.op (.enqueueDma src (.remote (n : Thread nD τ) dst (.dma s₁) hsc) (.dma s₂) hws hwd hsem) k) Q := by
  subst hn; subst hs₁; subst hs₂; subst hsrc; subst hdst
  unfold owesE
  iintro ⟨#HE, ⟨%W, HO⟩, HF, HR⟩
  ihave HF := (fam_flip hi (gathA m ρ c) (sentB c 2)) $$ HF
  icases HF with ⟨HA, HF⟩
  unfold gathA
  icases HA with ⟨HX, ⟨%fd, HD⟩, HT₁, HT₂⟩
  ihave HC₁ := (env_cell m ρ K (c, .inr (2, i))) $$ HE
  icases HC₁ with ⟨#HI₁, #HV₁⟩
  ihave HC₂ := (env_cell m ρ K (peer i c, .inr (3, i))) $$ HE
  icases HC₂ with ⟨#HI₂, #HV₂⟩
  rw [show oGath c S = oGath c (S.erase i) + tallyAt (dCell 3 i (peer i c)) () N from oSum_erase (fun i => dCell 3 i (peer i c)) N hi, ← add_assoc]
  unfold oPts
  iapply (Rounds.wp_send_pointsTo 𝒱₀ ER (sched m ρ) (c : Thread nD τ) none (κ₁ := K (c, .inr (2, i))) (κ₂ := K (peer i c, .inr (3, i)))
      (r₁ := 0) (r₂ := 0) (d₁ := 0) (d₂ := 0) (c' := (peer i c : Thread nD τ)) (src := oChunk (chunkOf c)) (dst := oChunk (chunkOf c)) (fd := fd)
      (by rw [duties_dma]; exact Finset.mem_singleton_self _) (by rw [duties_dma]; exact Finset.mem_singleton_self _)
      () () N rfl (amount_dma m ρ c 2 i 0) (amount_dma m ρ (peer i c) 3 i 0) (O + oGath c (S.erase i)) rfl (W := W)
      (by rw [payload_dma, oChunk_set]; unfold dmaPay oPts; exact BI.Entails.refl _)
      (by rw [payload_dma, oChunk_set]; unfold dmaPay oPts; rw [peer_peer]; exact Entails.of_eq (pointsTo_congr (gathered m ρ (chunkOf c) fd))))
    $$ [HX HD HO HT₁ HT₂]
  · isplitr; · iexact HI₁
    isplitr; · iexact HI₂
    isplitl [HX]; · rw [oChunk_set]; iexact HX
    isplitl [HD]; · rw [oChunk_set]; iexact HD
    isplitl [HO]; · iexact HO
    isplitl [HT₁]; · iexact HT₁
    isplitr; · iexact HV₁
    isplitl [HT₂]; · iexact HT₂
    iexact HV₂
  iintro ⟨HC, HO⟩
  iapply h
  isplitr; · iexact HE
  isplitl [HO]; · unfold owesE; iexists W; iexact HO
  isplitl [HF HC]; · iapply HF; unfold sentB; iexact HC
  iexact HR

/-- The load of a slot that has arrived. -/
theorem step_load_slot (i : Fin 7) {S : Finset (Fin 7)} (hi : i ∉ S) {O : CellTallies nD τ sig Unit}
    {off : Fin 3 → ℕ} (hoff : off = slotOff i) {inb : ∀ a, off a + S1x128x512.size a ≤ S7x128x512.size a}
    {hl : rM.view.LoadsAt (Rect.unit (s := S7x128x512) off S1x128x512.size inb).toLoadRect}
    {R : sProp 𝕄} {α : Type} {Q : α → sProp 𝕄} {k : Vec F S1x128x512 .f32 → Prog (TpuEff nD τ sig (Elt F) Λ₀ .tc) α}
    (h : iprop(env m ρ K ∗ owesE c O ∗ fam S (waitA c 1) (waitB m ρ c 1) ∗ R) ⊢ WP c (k (slotVal m ρ c i)) Q) :
    iprop(env m ρ K ∗ owesE c O ∗ fam S (waitA c 1) (waitB m ρ c 1) ∗ R)
      ⊢ WP c (.op (.load rM (Rect.unit (s := S7x128x512) off S1x128x512.size inb).toLoadRect hl) k) Q := by
  subst hoff
  iintro ⟨HE, HO, HF, HR⟩
  ihave HF := (fam_done hi (waitA c 1) (waitB m ρ c 1)) $$ HF
  icases HF with ⟨HB, HF⟩
  unfold waitB
  icases HB with ⟨HP, HA⟩
  unfold dmaPay sPts
  iapply (wp_load_rect 𝒱₀ (c : Thread nD τ) none Set.univ (m := rM) (r := slotRect i) (S := slots i) (f := landed m ρ c)
    (View.set_slice_whole cc0_scratch0 (slotRect i)).le) $$ HP
  iintro HP
  rw [read_slot]
  iapply h
  isplitl [HE]; · iexact HE
  isplitl [HO]; · iexact HO
  isplitl [HF HP HA]
  · iapply HF
    isplitl [HP]; · iexact HP
    iexact HA
  iexact HR

/-- The load of a device's own rows. -/
theorem step_load_own {O : CellTallies nD τ sig Unit} {off : Fin 2 → ℕ} (hoff : off = rowOff (chunkOf c))
    {inb : ∀ a, off a + S128x512.size a ≤ S1024x512.size a}
    {hl : xM.view.LoadsAt (Rect.unit (s := S1024x512) off S128x512.size inb).toLoadRect}
    {R : sProp 𝕄} {α : Type} {Q : α → sProp 𝕄} {k : Vec F S128x512 .f32 → Prog (TpuEff nD τ sig (Elt F) Λ₀ .tc) α}
    (h : iprop(env m ρ K ∗ owesE c O ∗ xPts m ρ c (chunkOf c) ∗ R) ⊢ WP c (k (ownVal m ρ c)) Q) :
    iprop(env m ρ K ∗ owesE c O ∗ xPts m ρ c (chunkOf c) ∗ R)
      ⊢ WP c (.op (.load xM (Rect.unit (s := S1024x512) off S128x512.size inb).toLoadRect hl) k) Q := by
  subst hoff
  iintro ⟨HE, HO, HX, HR⟩
  unfold xPts
  iapply (wp_load_rect 𝒱₀ (c : Thread nD τ) none Set.univ (m := xM) (r := rowRect (chunkOf c)) (S := rows (chunkOf c)) (f := xstg m ρ c)
    (View.set_slice_whole cc0_stg0_0 (rowRect (chunkOf c))).le) $$ HX
  iintro HX
  rw [read_own]
  iapply h
  isplitl [HE]; · iexact HE
  isplitl [HO]; · iexact HO
  isplitl [HX]; · unfold xPts; iexact HX
  iexact HR

/-- The weights as staged. -/
def wPts : sProp 𝕄 := ((c : Thread nD τ).loc cc0_stg1_0) ↦{fullShare} wstg m ρ c

theorem step_load_w {O : CellTallies nD τ sig Unit} {off : Fin 2 → ℕ} (hoff : off = fun _ => 0)
    {inb : ∀ a, off a + S512x512.size a ≤ S512x512.size a}
    {hl : wM.view.LoadsAt (Rect.unit (s := S512x512) off S512x512.size inb).toLoadRect}
    {R : sProp 𝕄} {α : Type} {Q : α → sProp 𝕄} {k : Vec F S512x512 .f32 → Prog (TpuEff nD τ sig (Elt F) Λ₀ .tc) α}
    (h : iprop(env m ρ K ∗ owesE c O ∗ wPts m ρ c ∗ R) ⊢ WP c (k (wstg m ρ c)) Q) :
    iprop(env m ρ K ∗ owesE c O ∗ wPts m ρ c ∗ R)
      ⊢ WP c (.op (.load wM (Rect.unit (s := S512x512) off S512x512.size inb).toLoadRect hl) k) Q := by
  iintro ⟨HE, HO, HX, HR⟩
  unfold wPts
  iapply (wp_load 𝒱₀ (c : Thread nD τ) none Set.univ (m := wM) (Finset.subset_univ _)) $$ HX
  iintro HX
  rw [show wM.view.readAt (Elt F) (Rect.unit (s := S512x512) off S512x512.size inb).toLoadRect (wstg m ρ c) = wstg m ρ c from
    Memref.readAt_unit_zero (Elt F) cc0_stg1_0 hoff _ _]
  iapply h
  isplitl [HE]; · iexact HE
  isplitl [HO]; · iexact HO
  isplitl [HX]; · unfold wPts; iexact HX
  iexact HR

/-- The store of the computed chunk (the load before it is of what it overwrites). -/
theorem step_store {O : CellTallies nD τ sig Unit} {off off' : Fin 2 → ℕ} (hoff : off = rowOff (chunkOf c)) (hoff' : off' = rowOff (chunkOf c))
    {inb : ∀ a, off a + S128x512.size a ≤ S1024x512.size a} {inb' : ∀ a, off' a + S128x512.size a ≤ S1024x512.size a}
    {hl : oM.view.LoadsAt (Rect.unit (s := S1024x512) off S128x512.size inb).toLoadRect}
    {hx : (oM.access (Rect.unit (s := S1024x512) off' S128x512.size inb')).Stores Finset.univ}
    {hm : (Finset.univ : Finset (Rect.unit (s := S1024x512) off' S128x512.size inb').shape.Idx) = Finset.univ
      ∨ ∀ a, (Rect.unit (s := S1024x512) off' S128x512.size inb').stride a = 1}
    {R : sProp 𝕄} {α : Type} {Q : α → sProp 𝕄} {k : PUnit → Prog (TpuEff nD τ sig (Elt F) Λ₀ .tc) α}
    (h : iprop(env m ρ K ∗ owesE c O ∗ oPts c (chunkOf c) fullShare (finalOut m ρ) ∗ R) ⊢ WP c (k ⟨⟩) Q) :
    iprop(env m ρ K ∗ owesE c O ∗ (∃ f, oPts c (chunkOf c) fullShare f) ∗ R)
      ⊢ WP c (.op (.load oM (Rect.unit (s := S1024x512) off S128x512.size inb).toLoadRect hl) fun _ =>
          .op (.store oM (Rect.unit (s := S1024x512) off' S128x512.size inb') (result m ρ c) Finset.univ hx hm) k) Q := by
  subst hoff; subst hoff'
  iintro ⟨HE, HO, ⟨%f, HX⟩, HR⟩
  unfold oPts
  iapply (wp_load_rect 𝒱₀ (c : Thread nD τ) none Set.univ (m := oM) (r := rowRect (chunkOf c)) (S := rows (chunkOf c)) (f := f)
    (View.set_slice_whole cc0_stg2_0 (rowRect (chunkOf c))).le) $$ HX
  iintro HX
  iapply (wp_store 𝒱₀ (c : Thread nD τ) none Set.univ (m := oM) (r := rowRect (chunkOf c)) (S := rows (chunkOf c)) (f := f) (Mk := Finset.univ)
    (View.set_slice_whole cc0_stg2_0 (rowRect (chunkOf c))).le) $$ HX
  iintro HX
  ihave HX := (Entails.of_eq (pointsTo_congr (stored m ρ c f))) $$ HX
  iapply h
  isplitl [HE]; · iexact HE
  isplitl [HO]; · iexact HO
  isplitl [HX]; · unfold oPts; iexact HX
  iexact HR

/-- A family's cells close: their counters at zero are the device's again. -/
theorem close_fam (a : Fin 4) :
    iprop(env m ρ K ∗ bigSep Finset.univ (waitB m ρ c a))
      ⊢ |={Set.univ}=> bigSep Finset.univ fun i => iprop(dmaPay m ρ a i c ∗ semVal (dCell a i c) 0) := by
  refine (bigSep_with_persistent (Ψ := fun i => iprop(|={Set.univ}=> (dmaPay m ρ a i c ∗ semVal (dCell a i c) 0))) fun i _ => ?_).trans
    (bigSep_fupd _ _)
  unfold waitB
  iintro ⟨#HE, HP, HA⟩
  ihave HC' := (env_cell m ρ K (c, .inr (a, i))) $$ HE
  icases HC' with ⟨#HI, -⟩
  imod (Rounds.cell_close ER (sched m ρ) (Set.mem_univ (K (c, .inr (a, i)))) (fun h => h) (R := 0 + 1) (duties_later m ρ (dCell a i c))) $$ [HA] with HZ
  · isplitr; · iexact HI
    iexact HA
  imodintro
  isplitl [HP]; · iexact HP
  iexact HZ

theorem close_bar :
    iprop(env m ρ K ∗ atPos ER (barCell c) 1 ∅ 0) ⊢ |={Set.univ}=> semVal (barCell c) 0 := by
  iintro ⟨#HE, HA⟩
  ihave HC' := (env_cell m ρ K (c, .inl ())) $$ HE
  icases HC' with ⟨#HI, -⟩
  imod (Rounds.cell_close ER (sched m ρ) (Set.mem_univ (K (c, .inl ()))) (fun h => h) (R := 0 + 1) (duties_later m ρ (barCell c))) $$ [HA] with HZ
  · isplitr; · iexact HI
    iexact HA
  imodintro
  iexact HZ

end Rules

end Cert.KernelIdeal.Own

end
-- ==== Proof.IdealBody.lean ====
/-
The kernel's body on a device `c`: from what the launch hands it to what it leaves, by the rules of the steps, one line
a statement, with a regrouping of what is held between two phases.
-/
module

public import proofs.«01_k».proof.Proof.IdealSteps

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ) (c : Dev nD)

/-! ## The names of the views, as the rules take them -/

theorem xView {off : Fin 2 → ℕ} {q : Fin 8} (h : off = rowOff q) {inb : ∀ a, off a + S128x512.size a ≤ S1024x512.size a} {hs} :
    xM.slice (Rect.unit (s := S1024x512) off S128x512.size inb) hs = xChunk q := by subst h; rfl
theorem oView {off : Fin 2 → ℕ} {q : Fin 8} (h : off = rowOff q) {inb : ∀ a, off a + S128x512.size a ≤ S1024x512.size a} {hs} :
    oM.slice (Rect.unit (s := S1024x512) off S128x512.size inb) hs = oChunk q := by subst h; rfl

/-! ## What is held outside the phase at work -/

/-- For the scattering: the rows to send, with the duties of the transfer. -/
def scatT (i : Fin 7) : sProp 𝕄 :=
  iprop(xPts m ρ c (chunkOf (peer i c)) ∗ dutyTok ER (dCell 0 i c) 0 0 ∗ dutyTok ER (dCell 1 i (peer i c)) 0 0)
/-- For the gathering: the duties of the transfer. -/
def gathT (i : Fin 7) : sProp 𝕄 := iprop(dutyTok ER (dCell 2 i c) 0 0 ∗ dutyTok ER (dCell 3 i (peer i c)) 0 0)
/-- The peer's rows of this device's chunk, to be filled. -/
def theirRows (i : Fin 7) : sProp 𝕄 := iprop(∃ f, oPts (peer i c) (chunkOf c) fullShare f)
/-- A cell's position. -/
def posA (a : Fin 4) (i : Fin 7) : sProp 𝕄 := atPos ER (dCell a i c) 0 ∅ 0

/-- Held when the signals begin, besides them. -/
def held₁ (R : sProp 𝕄) : sProp 𝕄 :=
  iprop((cred (tallyAt (barCell c) () 7) ∗ atPos ER (barCell c) 0 ∅ 0)
    ∗ bigSep Finset.univ (scatT m ρ c) ∗ xPts m ρ c (chunkOf c) ∗ bigSep Finset.univ (waitA c 1)
    ∗ wPts m ρ c ∗ (∃ f, oPts c (chunkOf c) fullShare f) ∗ bigSep Finset.univ (gathT c) ∗ bigSep Finset.univ (waitA c 3)
    ∗ bigSep Finset.univ (posA c 0) ∗ bigSep Finset.univ (posA c 2) ∗ R)
/-- Held while scattering. -/
def held₂ (R : sProp 𝕄) : sProp 𝕄 :=
  iprop(atPos ER (barCell c) 1 ∅ 0 ∗ bigSep Finset.univ (theirRows c) ∗ xPts m ρ c (chunkOf c) ∗ bigSep Finset.univ (waitA c 1)
    ∗ wPts m ρ c ∗ (∃ f, oPts c (chunkOf c) fullShare f) ∗ bigSep Finset.univ (gathT c) ∗ bigSep Finset.univ (waitA c 3)
    ∗ bigSep Finset.univ (posA c 0) ∗ bigSep Finset.univ (posA c 2) ∗ R)
/-- Held when the own rows are loaded. -/
def held₃ (R : sProp 𝕄) : sProp 𝕄 :=
  iprop(atPos ER (barCell c) 1 ∅ 0 ∗ bigSep Finset.univ (theirRows c) ∗ bigSep Finset.univ (waitA c 1)
    ∗ wPts m ρ c ∗ (∃ f, oPts c (chunkOf c) fullShare f) ∗ bigSep Finset.univ (gathT c) ∗ bigSep Finset.univ (waitA c 3)
    ∗ bigSep Finset.univ (waitA c 0) ∗ bigSep Finset.univ (posA c 2) ∗ R)
/-- Held while the rows of the peers are waited for and summed. -/
def held₄ (R : sProp 𝕄) : sProp 𝕄 :=
  iprop(atPos ER (barCell c) 1 ∅ 0 ∗ bigSep Finset.univ (theirRows c) ∗ xPts m ρ c (chunkOf c)
    ∗ wPts m ρ c ∗ (∃ f, oPts c (chunkOf c) fullShare f) ∗ bigSep Finset.univ (gathT c) ∗ bigSep Finset.univ (waitA c 3)
    ∗ bigSep Finset.univ (waitA c 0) ∗ bigSep Finset.univ (posA c 2) ∗ R)
/-- Held when the weights are loaded. -/
def held₅ (R : sProp 𝕄) : sProp 𝕄 :=
  iprop(atPos ER (barCell c) 1 ∅ 0 ∗ bigSep Finset.univ (theirRows c) ∗ xPts m ρ c (chunkOf c) ∗ bigSep Finset.univ (waitB m ρ c 1)
    ∗ (∃ f, oPts c (chunkOf c) fullShare f) ∗ bigSep Finset.univ (gathT c) ∗ bigSep Finset.univ (waitA c 3)
    ∗ bigSep Finset.univ (waitA c 0) ∗ bigSep Finset.univ (posA c 2) ∗ R)
/-- Held when the chunk is stored. -/
def held₆ (R : sProp 𝕄) : sProp 𝕄 :=
  iprop(atPos ER (barCell c) 1 ∅ 0 ∗ bigSep Finset.univ (theirRows c) ∗ xPts m ρ c (chunkOf c) ∗ bigSep Finset.univ (waitB m ρ c 1)
    ∗ wPts m ρ c ∗ bigSep Finset.univ (gathT c) ∗ bigSep Finset.univ (waitA c 3)
    ∗ bigSep Finset.univ (waitA c 0) ∗ bigSep Finset.univ (posA c 2) ∗ R)
/-- Held while gathering. -/
def held₇ (R : sProp 𝕄) : sProp 𝕄 :=
  iprop(atPos ER (barCell c) 1 ∅ 0 ∗ xPts m ρ c (chunkOf c) ∗ bigSep Finset.univ (waitB m ρ c 1)
    ∗ wPts m ρ c ∗ bigSep Finset.univ (waitA c 3) ∗ bigSep Finset.univ (waitA c 0) ∗ bigSep Finset.univ (posA c 2) ∗ R)
/-- Held while the gathered chunks are waited for. -/
def held₈ (R : sProp 𝕄) : sProp 𝕄 :=
  iprop(atPos ER (barCell c) 1 ∅ 0 ∗ xPts m ρ c (chunkOf c) ∗ bigSep Finset.univ (waitB m ρ c 1)
    ∗ wPts m ρ c ∗ bigSep Finset.univ (waitA c 0) ∗ bigSep Finset.univ (waitA c 2) ∗ R)
/-- Held while the scattering sends are waited for. -/
def held₉ (R : sProp 𝕄) : sProp 𝕄 :=
  iprop(atPos ER (barCell c) 1 ∅ 0 ∗ xPts m ρ c (chunkOf c) ∗ bigSep Finset.univ (waitB m ρ c 1)
    ∗ wPts m ρ c ∗ bigSep Finset.univ (waitB m ρ c 3) ∗ bigSep Finset.univ (waitA c 2) ∗ R)
/-- Held while the gathering sends are waited for. -/
def held₁₀ (R : sProp 𝕄) : sProp 𝕄 :=
  iprop(atPos ER (barCell c) 1 ∅ 0 ∗ xPts m ρ c (chunkOf c) ∗ bigSep Finset.univ (waitB m ρ c 1)
    ∗ wPts m ρ c ∗ bigSep Finset.univ (waitB m ρ c 3) ∗ bigSep Finset.univ (waitB m ρ c 0) ∗ R)

/-! ## From phase to phase -/

variable {O : CellTallies nD τ sig Unit} {S : Finset (Fin 7)}

theorem to_barrier {R : sProp 𝕄} (hS : S = ∅) :
    iprop(env m ρ K ∗ owesE c (O + oBar c S) ∗ fam S (barA c) barB ∗ held₁ m ρ c R)
      ⊢ iprop(env m ρ K ∗ owesE c O ∗ (cred (tallyAt (barCell c) () 7) ∗ atPos ER (barCell c) 0 ∅ 0)
        ∗ bigSep Finset.univ (scatT m ρ c) ∗ xPts m ρ c (chunkOf c) ∗ bigSep Finset.univ (waitA c 1)
        ∗ wPts m ρ c ∗ (∃ f, oPts c (chunkOf c) fullShare f) ∗ bigSep Finset.univ (gathT c) ∗ bigSep Finset.univ (waitA c 3)
        ∗ bigSep Finset.univ (posA c 0) ∗ bigSep Finset.univ (posA c 2) ∗ R) := by
  rw [show oBar c S = 0 from oSum_empty _ _ hS, add_zero]
  unfold held₁
  iintro ⟨HE, HO, -, HR⟩
  isplitl [HE]; · iexact HE
  isplitl [HO]; · iexact HO
  iexact HR

theorem scat_ready_at (i : Fin 7) :
    iprop(barPay (F := F) c i ∗ scatT m ρ c i) ⊢ iprop(scatA m ρ c i ∗ theirRows c i) := by
  unfold barPay scatT scatA theirRows
  iintro ⟨⟨HS, HT⟩, HX, H₁, H₂⟩
  isplitr [HT]
  · isplitl [HX]; · iexact HX
    isplitl [HS]; · iexact HS
    isplitl [H₁]; · iexact H₁
    iexact H₂
  iexact HT

theorem scat_ready :
    iprop(bigSep Finset.univ (barPay (F := F) c) ∗ bigSep Finset.univ (scatT m ρ c))
      ⊢ iprop(fam Finset.univ (scatA m ρ c) (sentB c 0) ∗ bigSep Finset.univ (theirRows c)) := by
  rw [fam_univ, ← bigSep_sep', ← bigSep_sep']
  exact bigSep_mono fun i _ => scat_ready_at m ρ c i

theorem to_scatter {R : sProp 𝕄} :
    iprop(env m ρ K ∗ owesE c O ∗ atPos ER (barCell c) 1 ∅ 0 ∗ bigSep Finset.univ (barPay c)
        ∗ bigSep Finset.univ (scatT m ρ c) ∗ xPts m ρ c (chunkOf c) ∗ bigSep Finset.univ (waitA c 1)
        ∗ wPts m ρ c ∗ (∃ f, oPts c (chunkOf c) fullShare f) ∗ bigSep Finset.univ (gathT c) ∗ bigSep Finset.univ (waitA c 3)
        ∗ bigSep Finset.univ (posA c 0) ∗ bigSep Finset.univ (posA c 2) ∗ R)
      ⊢ iprop(env m ρ K ∗ owesE c O ∗ fam Finset.univ (scatA m ρ c) (sentB c 0) ∗ held₂ m ρ c R) := by
  unfold held₂
  iintro ⟨HE, HO, HA, HP, HT, HR⟩
  ihave H := (scat_ready m ρ c) $$ [HP HT]
  · isplitl [HP]; · iexact HP
    iexact HT
  icases H with ⟨HF, HT⟩
  isplitl [HE]; · iexact HE
  isplitl [HO]; · iexact HO
  isplitl [HF]; · iexact HF
  isplitl [HA]; · iexact HA
  isplitl [HT]; · iexact HT
  iexact HR

/-- A family sent, with its positions, is a family to be waited for. -/
theorem sent_wait (a : Fin 4) :
    iprop(bigSep Finset.univ (sentB (F := F) c a) ∗ bigSep Finset.univ (posA c a)) ⊢ bigSep Finset.univ (waitA c a) := by
  rw [← bigSep_sep']
  exact bigSep_mono fun i _ => BI.Entails.refl _

theorem to_own {R : sProp 𝕄} (hS : S = ∅) :
    iprop(env m ρ K ∗ owesE c (O + oScat c S) ∗ fam S (scatA m ρ c) (sentB c 0) ∗ held₂ m ρ c R)
      ⊢ iprop(env m ρ K ∗ owesE c O ∗ xPts m ρ c (chunkOf c) ∗ held₃ m ρ c R) := by
  rw [show oScat c S = 0 from oSum_empty _ _ hS, add_zero, fam_empty hS]
  unfold held₂ held₃
  iintro ⟨HE, HO, HS, HA, HT, HX, HW1, HW, HB, HG, HW3, HP0, HR⟩
  ihave HW0 := (sent_wait c 0) $$ [HS HP0]
  · isplitl [HS]; · iexact HS
    iexact HP0
  isplitl [HE]; · iexact HE
  isplitl [HO]; · iexact HO
  isplitl [HX]; · iexact HX
  isplitl [HA]; · iexact HA
  isplitl [HT]; · iexact HT
  isplitl [HW1]; · iexact HW1
  isplitl [HW]; · iexact HW
  isplitl [HB]; · iexact HB
  isplitl [HG]; · iexact HG
  isplitl [HW3]; · iexact HW3
  isplitl [HW0]; · iexact HW0
  iexact HR

theorem to_sum {R : sProp 𝕄} :
    iprop(env m ρ K ∗ owesE c O ∗ xPts m ρ c (chunkOf c) ∗ held₃ m ρ c R)
      ⊢ iprop(env m ρ K ∗ owesE c O ∗ fam Finset.univ (waitA c 1) (waitB m ρ c 1) ∗ held₄ m ρ c R) := by
  rw [fam_univ]
  unfold held₃ held₄
  iintro ⟨HE, HO, HX, HA, HT, HW1, HR⟩
  isplitl [HE]; · iexact HE
  isplitl [HO]; · iexact HO
  isplitl [HW1]; · iexact HW1
  isplitl [HA]; · iexact HA
  isplitl [HT]; · iexact HT
  isplitl [HX]; · iexact HX
  iexact HR

theorem to_weights {R : sProp 𝕄} (hS : S = ∅) :
    iprop(env m ρ K ∗ owesE c O ∗ fam S (waitA c 1) (waitB m ρ c 1) ∗ held₄ m ρ c R)
      ⊢ iprop(env m ρ K ∗ owesE c O ∗ wPts m ρ c ∗ held₅ m ρ c R) := by
  rw [fam_empty hS]
  unfold held₄ held₅
  iintro ⟨HE, HO, HF, HA, HT, HX, HW, HR⟩
  isplitl [HE]; · iexact HE
  isplitl [HO]; · iexact HO
  isplitl [HW]; · iexact HW
  isplitl [HA]; · iexact HA
  isplitl [HT]; · iexact HT
  isplitl [HX]; · iexact HX
  isplitl [HF]; · iexact HF
  iexact HR

theorem to_store {R : sProp 𝕄} :
    iprop(env m ρ K ∗ owesE c O ∗ wPts m ρ c ∗ held₅ m ρ c R)
      ⊢ iprop(env m ρ K ∗ owesE c O ∗ (∃ f, oPts c (chunkOf c) fullShare f) ∗ held₆ m ρ c R) := by
  unfold held₅ held₆
  iintro ⟨HE, HO, HW, HA, HT, HX, HF, HB, HR⟩
  isplitl [HE]; · iexact HE
  isplitl [HO]; · iexact HO
  isplitl [HB]; · iexact HB
  isplitl [HA]; · iexact HA
  isplitl [HT]; · iexact HT
  isplitl [HX]; · iexact HX
  isplitl [HF]; · iexact HF
  isplitl [HW]; · iexact HW
  iexact HR

/-- The full share of the own chunk, dealt to the seven sends. -/
theorem dealt (f : (cc0_stg2_0 : Ref sig .tc).ty.Contents (Elt F)) :
    oPts c (chunkOf c) fullShare f = bigSep Finset.univ fun i => oPts c (chunkOf c) (lent i) f :=
  Transfers.pointsTo_deal (Finset.univ : Finset (Fin 7)) ⟨0, Finset.mem_univ _⟩ fullShare

theorem gath_ready :
    iprop(oPts c (chunkOf c) fullShare (finalOut m ρ) ∗ bigSep Finset.univ (theirRows c) ∗ bigSep Finset.univ (gathT c))
      ⊢ fam Finset.univ (gathA m ρ c) (sentB c 2) := by
  rw [fam_univ, dealt, ← bigSep_sep', ← bigSep_sep']
  exact bigSep_mono fun i _ => BI.Entails.refl _

theorem to_gather {R : sProp 𝕄} :
    iprop(env m ρ K ∗ owesE c O ∗ oPts c (chunkOf c) fullShare (finalOut m ρ) ∗ held₆ m ρ c R)
      ⊢ iprop(env m ρ K ∗ owesE c (0 + O) ∗ fam Finset.univ (gathA m ρ c) (sentB c 2) ∗ held₇ m ρ c R) := by
  rw [zero_add]
  unfold held₆ held₇
  iintro ⟨HE, HO, HB, HA, HT, HX, HF, HW, HG, HR⟩
  ihave HG := (gath_ready m ρ c) $$ [HB HT HG]
  · isplitl [HB]; · iexact HB
    isplitl [HT]; · iexact HT
    iexact HG
  isplitl [HE]; · iexact HE
  isplitl [HO]; · iexact HO
  isplitl [HG]; · iexact HG
  isplitl [HA]; · iexact HA
  isplitl [HX]; · iexact HX
  isplitl [HF]; · iexact HF
  isplitl [HW]; · iexact HW
  iexact HR

theorem to_gathered {R : sProp 𝕄} (hS : S = ∅) :
    iprop(env m ρ K ∗ owesE c (0 + oGath c S) ∗ fam S (gathA m ρ c) (sentB c 2) ∗ held₇ m ρ c R)
      ⊢ iprop(env m ρ K ∗ owesE c 0 ∗ fam Finset.univ (waitA c 3) (waitB m ρ c 3) ∗ held₈ m ρ c R) := by
  rw [show oGath c S = 0 from oSum_empty _ _ hS, add_zero, fam_empty hS, fam_univ]
  unfold held₇ held₈
  iintro ⟨HE, HO, HS, HA, HX, HF, HW, HW3, HW0, HP2, HR⟩
  ihave HW2 := (sent_wait c 2) $$ [HS HP2]
  · isplitl [HS]; · iexact HS
    iexact HP2
  isplitl [HE]; · iexact HE
  isplitl [HO]; · iexact HO
  isplitl [HW3]; · iexact HW3
  isplitl [HA]; · iexact HA
  isplitl [HX]; · iexact HX
  isplitl [HF]; · iexact HF
  isplitl [HW]; · iexact HW
  isplitl [HW0]; · iexact HW0
  isplitl [HW2]; · iexact HW2
  iexact HR

theorem to_sent {R : sProp 𝕄} (hS : S = ∅) :
    iprop(env m ρ K ∗ owesE c O ∗ fam S (waitA c 3) (waitB m ρ c 3) ∗ held₈ m ρ c R)
      ⊢ iprop(env m ρ K ∗ owesE c O ∗ fam Finset.univ (waitA c 0) (waitB m ρ c 0) ∗ held₉ m ρ c R) := by
  rw [fam_empty hS, fam_univ]
  unfold held₈ held₉
  iintro ⟨HE, HO, H3, HA, HX, HF, HW, HW0, HR⟩
  isplitl [HE]; · iexact HE
  isplitl [HO]; · iexact HO
  isplitl [HW0]; · iexact HW0
  isplitl [HA]; · iexact HA
  isplitl [HX]; · iexact HX
  isplitl [HF]; · iexact HF
  isplitl [HW]; · iexact HW
  isplitl [H3]; · iexact H3
  iexact HR

theorem to_sent' {R : sProp 𝕄} (hS : S = ∅) :
    iprop(env m ρ K ∗ owesE c O ∗ fam S (waitA c 0) (waitB m ρ c 0) ∗ held₉ m ρ c R)
      ⊢ iprop(env m ρ K ∗ owesE c O ∗ fam Finset.univ (waitA c 2) (waitB m ρ c 2) ∗ held₁₀ m ρ c R) := by
  rw [fam_empty hS, fam_univ]
  unfold held₉ held₁₀
  iintro ⟨HE, HO, H0, HA, HX, HF, HW, H3, HW2, HR⟩
  isplitl [HE]; · iexact HE
  isplitl [HO]; · iexact HO
  isplitl [HW2]; · iexact HW2
  isplitl [HA]; · iexact HA
  isplitl [HX]; · iexact HX
  isplitl [HF]; · iexact HF
  isplitl [HW]; · iexact HW
  isplitl [H3]; · iexact H3
  isplitl [H0]; · iexact H0
  iexact HR

/-! ## What the body leaves -/

/-- A family's payloads, and its cells at zero. -/
def closed (a : Fin 4) : sProp 𝕄 := bigSep Finset.univ fun i => iprop(dmaPay m ρ a i c ∗ semVal (dCell a i c) 0)

/-- What the body leaves: nothing owed, the operand's own rows and the weights, every cell closed with what it paid. -/
def left : sProp 𝕄 :=
  iprop(owesE c 0 ∗ semVal (barCell c) 0 ∗ xPts m ρ c (chunkOf c) ∗ wPts m ρ c
    ∗ closed m ρ c 0 ∗ closed m ρ c 1 ∗ closed m ρ c 2 ∗ closed m ρ c 3)

theorem finish (hS : S = ∅) {Q : PUnit → sProp 𝕄} :
    iprop(env m ρ K ∗ owesE c 0 ∗ fam S (waitA c 2) (waitB m ρ c 2) ∗ held₁₀ m ρ c iprop(left m ρ c -∗ Q ⟨⟩))
      ⊢ WP c (.ret ⟨⟩) Q := by
  rw [fam_empty hS]
  unfold held₁₀
  iintro ⟨#HE, HO, H2, HA, HX, H1, HW, H3, H0, HQ⟩
  imod (close_bar m ρ K c) $$ [HA] with HZ
  · isplitr; · iexact HE
    iexact HA
  imod (close_fam m ρ K c 0) $$ [H0] with H0
  · isplitr; · iexact HE
    iexact H0
  imod (close_fam m ρ K c 1) $$ [H1] with H1
  · isplitr; · iexact HE
    iexact H1
  imod (close_fam m ρ K c 2) $$ [H2] with H2
  · isplitr; · iexact HE
    iexact H2
  imod (close_fam m ρ K c 3) $$ [H3] with H3
  · isplitr; · iexact HE
    iexact H3
  rw [wp_ret]; imodintro
  iapply HQ
  unfold left closed
  isplitl [HO]; · iexact HO
  isplitl [HZ]; · iexact HZ
  isplitl [HX]; · iexact HX
  isplitl [HW]; · iexact HW
  isplitl [H0]; · iexact H0
  isplitl [H1]; · iexact H1
  isplitl [H2]; · iexact H2
  iexact H3

/-! ## The body -/

set_option maxRecDepth 20000 in
set_option maxHeartbeats 4000000 in
theorem body_run (Q : PUnit → sProp 𝕄) :
    iprop(env m ρ K ∗ owesE c (O₀ c) ∗ fam Finset.univ (barA c) barB ∗ held₁ m ρ c iprop(left m ρ c -∗ Q ⟨⟩))
      ⊢ WP c (cc0_body xM (Memref.isWhole_whole _) wM (Memref.isWhole_whole _) oM (Memref.isWhole_whole _) rM (Memref.isWhole_whole _)
          cc0_scratch1 cc0_scratch2 cc0_scratch3 cc0_scratch4) Q := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel k0_part15_skel k0_part16_skel
    k0_part17_skel k0_part18_skel k0_part19_skel
  simp only [semSignalWord, semWaitWord, Prog.lift, Prog.bind_op, Prog.bind_ret, Prog.pure_eq_ret, wp_deviceId]
  -- the barrier
  refine step_signal m ρ K c 0 (dev1_eq c) (by decide) rfl rfl ?_
  refine step_signal m ρ K c 1 (dev2_eq c) (by decide) rfl rfl ?_
  refine step_signal m ρ K c 2 (dev3_eq c) (by decide) rfl rfl ?_
  refine step_signal m ρ K c 3 (dev4_eq c) (by decide) rfl rfl ?_
  refine step_signal m ρ K c 4 (dev5_eq c) (by decide) rfl rfl ?_
  refine step_signal m ρ K c 5 (dev6_eq c) (by decide) rfl rfl ?_
  refine step_signal m ρ K c 6 (dev7_eq c) (by decide) rfl rfl ?_
  refine BIBase.Entails.trans (to_barrier m ρ K c ?_) ?_
  · decide
  refine step_barrier m ρ K c (((above_gath c _).mono (by decide)).add (above_scat c _)) rfl rfl ?_
  -- scattering
  refine BIBase.Entails.trans (to_scatter m ρ K c) ?_
  refine step_scatter m ρ K c 5 (dev8_eq c) (by decide) rfl rfl (xView (off1_eq c 5)) rfl ?_
  refine step_scatter m ρ K c 1 (dev9_eq c) (by decide) rfl rfl (xView (off1_eq c 1)) rfl ?_
  refine step_scatter m ρ K c 4 (dev10_eq c) (by decide) rfl rfl (xView (off1_eq c 4)) rfl ?_
  refine step_scatter m ρ K c 6 (dev11_eq c) (by decide) rfl rfl (xView (off1_eq c 6)) rfl ?_
  refine step_scatter m ρ K c 0 (dev12_eq c) (by decide) rfl rfl (xView (off1_eq c 0)) rfl ?_
  refine step_scatter m ρ K c 2 (dev13_eq c) (by decide) rfl rfl (xView (off1_eq c 2)) rfl ?_
  refine step_scatter m ρ K c 3 (dev14_eq c) (by decide) rfl rfl (xView (off1_eq c 3)) rfl ?_
  refine BIBase.Entails.trans (to_own m ρ K c ?_) ?_
  · decide
  refine step_load_own m ρ K c (off2_eq c) ?_
  -- waiting for the peers' rows, and loading them
  refine BIBase.Entails.trans (to_sum m ρ K c) ?_
  refine step_wait m ρ K c 1 0 (by decide) (by decide) (above_gath c _) rfl (by rfl) ?_
  refine step_load_slot m ρ K c 0 (by decide) rfl ?_
  refine step_wait m ρ K c 1 2 (by decide) (by decide) (above_gath c _) rfl (by rfl) ?_
  refine step_load_slot m ρ K c 2 (by decide) rfl ?_
  refine step_wait m ρ K c 1 3 (by decide) (by decide) (above_gath c _) rfl (by rfl) ?_
  refine step_load_slot m ρ K c 3 (by decide) rfl ?_
  refine step_wait m ρ K c 1 1 (by decide) (by decide) (above_gath c _) rfl (by rfl) ?_
  refine step_load_slot m ρ K c 1 (by decide) rfl ?_
  refine step_wait m ρ K c 1 4 (by decide) (by decide) (above_gath c _) rfl (by rfl) ?_
  refine step_load_slot m ρ K c 4 (by decide) rfl ?_
  refine step_wait m ρ K c 1 6 (by decide) (by decide) (above_gath c _) rfl (by rfl) ?_
  refine step_load_slot m ρ K c 6 (by decide) rfl ?_
  refine step_wait m ρ K c 1 5 (by decide) (by decide) (above_gath c _) rfl (by rfl) ?_
  refine step_load_slot m ρ K c 5 (by decide) rfl ?_
  -- the product, stored
  refine BIBase.Entails.trans (to_weights m ρ K c ?_) ?_
  · decide
  refine step_load_w m ρ K c (by decide) ?_
  refine BIBase.Entails.trans (to_store m ρ K c) ?_
  refine step_store m ρ K c (off2_eq c) (off2_eq c) ?_
  -- gathering
  refine BIBase.Entails.trans (to_gather m ρ K c) ?_
  refine step_gather m ρ K c 5 (dev15_eq c) (by decide) rfl rfl (oView (off3_eq c)) (oView (off3_eq c)) ?_
  refine step_gather m ρ K c 1 (dev16_eq c) (by decide) rfl rfl (oView (off3_eq c)) (oView (off3_eq c)) ?_
  refine step_gather m ρ K c 4 (dev17_eq c) (by decide) rfl rfl (oView (off3_eq c)) (oView (off3_eq c)) ?_
  refine step_gather m ρ K c 6 (dev18_eq c) (by decide) rfl rfl (oView (off3_eq c)) (oView (off3_eq c)) ?_
  refine step_gather m ρ K c 0 (dev19_eq c) (by decide) rfl rfl (oView (off3_eq c)) (oView (off3_eq c)) ?_
  refine step_gather m ρ K c 2 (dev20_eq c) (by decide) rfl rfl (oView (off3_eq c)) (oView (off3_eq c)) ?_
  refine step_gather m ρ K c 3 (dev21_eq c) (by decide) rfl rfl (oView (off3_eq c)) (oView (off3_eq c)) ?_
  refine BIBase.Entails.trans (to_gathered m ρ K c ?_) ?_
  · decide
  refine step_wait m ρ K c 3 0 (by decide) (lev := 3) (by decide) (Above.zero _) rfl (by rfl) ?_
  refine step_wait m ρ K c 3 2 (by decide) (lev := 3) (by decide) (Above.zero _) rfl (by rfl) ?_
  refine step_wait m ρ K c 3 3 (by decide) (lev := 3) (by decide) (Above.zero _) rfl (by rfl) ?_
  refine step_wait m ρ K c 3 1 (by decide) (lev := 3) (by decide) (Above.zero _) rfl (by rfl) ?_
  refine step_wait m ρ K c 3 4 (by decide) (lev := 3) (by decide) (Above.zero _) rfl (by rfl) ?_
  refine step_wait m ρ K c 3 6 (by decide) (lev := 3) (by decide) (Above.zero _) rfl (by rfl) ?_
  refine step_wait m ρ K c 3 5 (by decide) (lev := 3) (by decide) (Above.zero _) rfl (by rfl) ?_
  -- the sends' own ends
  refine BIBase.Entails.trans (to_sent m ρ K c ?_) ?_
  · decide
  refine step_wait m ρ K c 0 5 (by decide) (lev := 3) (by decide) (Above.zero _) rfl (by rfl) ?_
  refine step_wait m ρ K c 0 1 (by decide) (lev := 3) (by decide) (Above.zero _) rfl (by rfl) ?_
  refine step_wait m ρ K c 0 4 (by decide) (lev := 3) (by decide) (Above.zero _) rfl (by rfl) ?_
  refine step_wait m ρ K c 0 6 (by decide) (lev := 3) (by decide) (Above.zero _) rfl (by rfl) ?_
  refine step_wait m ρ K c 0 0 (by decide) (lev := 3) (by decide) (Above.zero _) rfl (by rfl) ?_
  refine step_wait m ρ K c 0 2 (by decide) (lev := 3) (by decide) (Above.zero _) rfl (by rfl) ?_
  refine step_wait m ρ K c 0 3 (by decide) (lev := 3) (by decide) (Above.zero _) rfl (by rfl) ?_
  refine BIBase.Entails.trans (to_sent' m ρ K c ?_) ?_
  · decide
  refine step_wait m ρ K c 2 5 (by decide) (lev := 3) (by decide) (Above.zero _) rfl (by rfl) ?_
  refine step_wait m ρ K c 2 1 (by decide) (lev := 3) (by decide) (Above.zero _) rfl (by rfl) ?_
  refine step_wait m ρ K c 2 4 (by decide) (lev := 3) (by decide) (Above.zero _) rfl (by rfl) ?_
  refine step_wait m ρ K c 2 6 (by decide) (lev := 3) (by decide) (Above.zero _) rfl (by rfl) ?_
  refine step_wait m ρ K c 2 0 (by decide) (lev := 3) (by decide) (Above.zero _) rfl (by rfl) ?_
  refine step_wait m ρ K c 2 2 (by decide) (lev := 3) (by decide) (Above.zero _) rfl (by rfl) ?_
  refine step_wait m ρ K c 2 3 (by decide) (lev := 3) (by decide) (Above.zero _) rfl (by rfl) ?_
  exact finish m ρ K c (by decide)

end Cert.KernelIdeal.Own

end
-- ==== Proof.IdealHandover.lean ====
/-
A device's buffers dealt to the protocol and gathered from it again: what the pipeline hands the body is what the run of
the body takes, and what that leaves is what the pipeline takes back.
-/
module

public import proofs.«01_k».proof.Proof.IdealBody
public import proofs.«01_k».proof.Proof.Gen.KernelIdeal.Points

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ) (c : Dev nD)

/-! ## Chunks listed from a device -/

/-- The chunks of the peers. -/
def peerChunks : Fin 7 ↪ Fin 8 := ⟨fun i => chunkOf (peer i c), fun _ _ h => peer_inj c (chunkOf_inj h)⟩

theorem others_eq : Finset.univ.erase (chunkOf c) = Finset.univ.map (peerChunks c) := by revert c; decide +kernel

omit [FloatOps F] in
/-- The eight chunks are a device's own and its seven peers'. -/
theorem chunks_around (Φ : Fin 8 → sProp 𝕄) :
    bigSep Finset.univ Φ = iprop(Φ (chunkOf c) ∗ bigSep Finset.univ fun i => Φ (chunkOf (peer i c))) := by
  rw [bigSep_univ_at Φ (chunkOf c), others_eq, bigSep_map]; rfl

/-! ## Buffers whole and in parts -/

/-- The operand, staged. -/
theorem x_parts : (((c : Thread nD τ).loc cc0_stg0_0) ↦{fullShare} xstg m ρ c : sProp 𝕄)
    = iprop(xPts m ρ c (chunkOf c) ∗ bigSep Finset.univ fun i => xPts m ρ c (chunkOf (peer i c))) := by
  rw [← chunks_around c fun q => xPts m ρ c q]
  exact Ring.pointsTo_blocks (ℓ := (c : Thread nD τ).loc cc0_stg0_0) (q := fullShare) rows rows_disjoint rows_cover (xstg m ρ c)

/-- The result buffer at one contents. -/
theorem out_parts (f : (cc0_stg2_0 : Ref sig .tc).ty.Contents (Elt F)) : (((c : Thread nD τ).loc cc0_stg2_0) ↦{fullShare} f : sProp 𝕄)
    = iprop(oPts c (chunkOf c) fullShare f ∗ bigSep Finset.univ fun i => oPts c (chunkOf (peer i c)) fullShare f) := by
  rw [← chunks_around c fun q => oPts c q fullShare f]
  exact Ring.pointsTo_blocks (ℓ := (c : Thread nD τ).loc cc0_stg2_0) (q := fullShare) rows rows_disjoint rows_cover f

/-- The landing slots at one contents. -/
theorem scr_parts (f : (cc0_scratch0 : Ref sig .tc).ty.Contents (Elt F)) : (((c : Thread nD τ).loc cc0_scratch0) ↦{fullShare} f : sProp 𝕄)
    = bigSep Finset.univ fun i => sPts c i f :=
  Ring.pointsTo_blocks (ℓ := (c : Thread nD τ).loc cc0_scratch0) (q := fullShare) slots slots_disjoint slots_cover f

omit [FloatOps F] in
theorem out_some (i : Fin 7) (f : (cc0_stg2_0 : Ref sig .tc).ty.Contents (Elt F)) :
    oPts (F := F) c (chunkOf (peer i c)) fullShare f ⊢ iprop(∃ f, oPts c (chunkOf (peer i c)) fullShare f) := by
  iintro H; iexists f; iexact H
omit [FloatOps F] in
theorem scr_some (i : Fin 7) (f : (cc0_scratch0 : Ref sig .tc).ty.Contents (Elt F)) :
    sPts (F := F) c i f ⊢ iprop(∃ f, sPts c i f) := by
  iintro H; iexists f; iexact H

/-! ## What a device starts with -/

/-- The positions of its cells, -/
def places : sProp 𝕄 := iprop(atPos ER (barCell c) 0 ∅ 0 ∗ bigSep Finset.univ (posA c 0) ∗ bigSep Finset.univ (posA c 1)
  ∗ bigSep Finset.univ (posA c 2) ∗ bigSep Finset.univ (posA c 3))
/-- the tokens of the duties it pays: a unit at every peer's barrier, and both ends of its fourteen transfers, -/
def payToks : sProp 𝕄 :=
  iprop((bigSep Finset.univ fun i => dutyTok ER (barCell (peer i c)) 0 i)
    ∗ (bigSep Finset.univ fun i => dutyTok ER (dCell 0 i c) 0 0) ∗ (bigSep Finset.univ fun i => dutyTok ER (dCell 1 i (peer i c)) 0 0)
    ∗ (bigSep Finset.univ fun i => dutyTok ER (dCell 2 i c) 0 0) ∗ (bigSep Finset.univ fun i => dutyTok ER (dCell 3 i (peer i c)) 0 0))
/-- and the credit for its waits on what its peers send. -/
def credits : sProp 𝕄 :=
  iprop(cred (tallyAt (barCell c) () 7) ∗ (bigSep Finset.univ fun i => cred (tallyAt (dCell 1 i c) () N))
    ∗ bigSep Finset.univ fun i => cred (tallyAt (dCell 3 i c) () N))

/-- What a device starts with, besides its buffers. -/
def start : sProp 𝕄 := iprop((∃ K, env m ρ K ∗ places c ∗ payToks c) ∗ credits c)

/-- Between the launch and the body: the same, with the landing slots. -/
def Φ₀ : sProp 𝕄 := iprop(start m ρ c ∗ ∃ f : (cc0_scratch0 : Ref sig .tc).ty.Contents (Elt F), ((c : Thread nD τ).loc cc0_scratch0) ↦{fullShare} f)
/-- After the body: the landing slots, and every cell of the device at zero. -/
def Φ₁ : sProp 𝕄 :=
  iprop((∃ f : (cc0_scratch0 : Ref sig .tc).ty.Contents (Elt F), ((c : Thread nD τ).loc cc0_scratch0) ↦{fullShare} f)
    ∗ semVal (barCell c) 0 ∗ bigSep Finset.univ fun x : Fin 4 × Fin 7 => semVal (dCell x.1 x.2 c) 0)

/-- What each signal carries. -/
theorem bar_ready :
    iprop((bigSep Finset.univ fun i => dutyTok ER (barCell (peer i c)) 0 i)
        ∗ (bigSep Finset.univ fun i => iprop(∃ f, sPts c i f)) ∗ bigSep Finset.univ fun i => iprop(∃ f, oPts c (chunkOf (peer i c)) fullShare f))
      ⊢ (fam Finset.univ (barA c) barB : sProp 𝕄) := by
  rw [fam_univ, ← bigSep_sep', ← bigSep_sep']
  refine bigSep_mono fun i _ => ?_
  unfold barA barPay
  rw [peer_peer]
  exact BI.Entails.refl _

theorem scat_toks :
    iprop((bigSep Finset.univ fun i => xPts m ρ c (chunkOf (peer i c)))
        ∗ (bigSep Finset.univ fun i => dutyTok ER (dCell 0 i c) 0 0) ∗ bigSep Finset.univ fun i => dutyTok ER (dCell 1 i (peer i c)) 0 0)
      ⊢ bigSep Finset.univ (scatT m ρ c) := by
  rw [← bigSep_sep', ← bigSep_sep']
  exact bigSep_mono fun i _ => BI.Entails.refl _

theorem gath_toks :
    iprop((bigSep Finset.univ fun i => dutyTok ER (dCell 2 i c) 0 0) ∗ bigSep Finset.univ fun i => dutyTok ER (dCell 3 i (peer i c)) 0 0)
      ⊢ (bigSep Finset.univ (gathT c) : sProp 𝕄) := by
  rw [← bigSep_sep']
  exact bigSep_mono fun i _ => BI.Entails.refl _

/-- The launch's holdings are what the run of the body takes. -/
theorem hand_over {R : sProp 𝕄} :
    iprop((places c ∗ payToks c) ∗ credits c
        ∗ (∃ f : (cc0_scratch0 : Ref sig .tc).ty.Contents (Elt F), ((c : Thread nD τ).loc cc0_scratch0) ↦{fullShare} f)
        ∗ (((c : Thread nD τ).loc cc0_stg0_0) ↦{fullShare} xstg m ρ c) ∗ wPts m ρ c
        ∗ (∃ f : (cc0_stg2_0 : Ref sig .tc).ty.Contents (Elt F), ((c : Thread nD τ).loc cc0_stg2_0) ↦{fullShare} f) ∗ R)
      ⊢ iprop(fam Finset.univ (barA c) barB ∗ held₁ m ρ c R) := by
  unfold places payToks credits held₁
  iintro ⟨⟨⟨HaB, Ha0, Ha1, Ha2, Ha3⟩, HtB, Ht0, Ht1, Ht2, Ht3⟩, ⟨HcB, Hc1, Hc3⟩, ⟨%fs, HS⟩, HX, HW, ⟨%fo, HO⟩, HR⟩
  ihave HS := (Entails.of_eq (scr_parts c fs)) $$ HS
  ihave HX := (Entails.of_eq (x_parts m ρ c)) $$ HX
  icases HX with ⟨HX, HXs⟩
  ihave HO := (Entails.of_eq (out_parts c fo)) $$ HO
  icases HO with ⟨HO, HOs⟩
  isplitl [HtB HS HOs]
  · iapply (bar_ready c)
    isplitl [HtB]; · iexact HtB
    isplitl [HS]
    · iapply (show bigSep Finset.univ (fun i => sPts c i fs) ⊢ bigSep Finset.univ (fun i => iprop(∃ f, sPts (F := F) c i f)) from
        bigSep_mono fun i _ => scr_some c i fs)
      iexact HS
    · iapply (show bigSep Finset.univ (fun i => oPts c (chunkOf (peer i c)) fullShare fo)
          ⊢ bigSep Finset.univ (fun i => iprop(∃ f, oPts (F := F) c (chunkOf (peer i c)) fullShare f)) from
        bigSep_mono fun i _ => out_some c i fo)
      iexact HOs
  isplitl [HcB HaB]
  · isplitl [HcB]; · iexact HcB
    iexact HaB
  isplitl [HXs Ht0 Ht1]
  · iapply (scat_toks m ρ c)
    isplitl [HXs]; · iexact HXs
    isplitl [Ht0]; · iexact Ht0
    iexact Ht1
  isplitl [HX]; · iexact HX
  isplitl [Hc1 Ha1]
  · iapply (sent_wait c 1)
    isplitl [Hc1]; · iexact Hc1
    iexact Ha1
  isplitl [HW]; · iexact HW
  isplitl [HO]; · iexists fo; iexact HO
  isplitl [Ht2 Ht3]
  · iapply (gath_toks c)
    isplitl [Ht2]; · iexact Ht2
    iexact Ht3
  isplitl [Hc3 Ha3]
  · iapply (sent_wait c 3)
    isplitl [Hc3]; · iexact Hc3
    iexact Ha3
  isplitl [Ha0]; · iexact Ha0
  isplitl [Ha2]; · iexact Ha2
  iexact HR

/-! ## What a device ends with -/

/-- The four families' cells at zero, listed together. -/
theorem zeros :
    iprop((bigSep Finset.univ fun i => semVal (dCell 0 i c) 0) ∗ (bigSep Finset.univ fun i => semVal (dCell 1 i c) 0)
        ∗ (bigSep Finset.univ fun i => semVal (dCell 2 i c) 0) ∗ bigSep Finset.univ fun i => semVal (dCell 3 i c) 0)
      ⊢ (bigSep Finset.univ fun x : Fin 4 × Fin 7 => semVal (dCell x.1 x.2 c) 0 : sProp 𝕄) := by
  rw [bigSep_univ_prod, bigSep_univ_eq_bigSepL [(0 : Fin 4), 1, 2, 3] (by decide) (by decide)]
  exact BI.Entails.refl _

/-- What the run of the body leaves is what the pipeline takes back: the operand and the weights as they were, the result
    at its final contents, the landing slots, every cell at zero. -/
theorem hand_back :
    left m ρ c ⊢ iprop(owesE c 0 ∗ Φ₁ c
      ∗ (((c : Thread nD τ).loc cc0_stg0_0) ↦{fullShare} xstg m ρ c) ∗ wPts m ρ c
      ∗ (((c : Thread nD τ).loc cc0_stg2_0) ↦{fullShare} finalOut m ρ)) := by
  unfold left closed Φ₁
  rw [bigSep_sep', bigSep_sep', bigSep_sep', bigSep_sep', x_parts, out_parts, dealt]
  iintro ⟨HO, HB, HX, HW, ⟨H0, Z0⟩, ⟨H1, Z1⟩, ⟨H2, Z2⟩, H3, Z3⟩
  isplitl [HO]; · iexact HO
  isplitl [H1 HB Z0 Z1 Z2 Z3]
  · isplitl [H1]
    · iexists (landed m ρ c)
      iapply (Entails.of_eq (scr_parts c (landed m ρ c)).symm)
      iexact H1
    isplitl [HB]; · iexact HB
    iapply (zeros c)
    isplitl [Z0]; · iexact Z0
    isplitl [Z1]; · iexact Z1
    isplitl [Z2]; · iexact Z2
    iexact Z3
  isplitl [HX H0]
  · isplitl [HX]; · iexact HX
    iexact H0
  isplitl [HW]; · iexact HW
  isplitl [H2]; · iexact H2
  iexact H3

/-! ## The pipeline's data, and its obligation on the body -/

/-- Per device: the arrays' contents at entry, the staged contents after the body, what is held before and after, what is
    owed before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => finalOut m ρ
  Φ t := match t with | ⟨0, _⟩ => Φ₀ m ρ c | ⟨_ + 1, _⟩ => Φ₁ c
  q _ := fullShare
  owed t := match t with | ⟨0, _⟩ => O₀ c | ⟨_ + 1, _⟩ => 0

theorem before_x (d) : (dats m ρ 0 c).before (0 : Fin 3) t0_0 d = xstg m ρ c := by
  unfold Dat.before; rw [if_pos (fetch0_0 t0_0)]; rfl
theorem before_w (d) : (dats m ρ 0 c).before (1 : Fin 3) t0_0 d = wstg m ρ c := by
  unfold Dat.before; rw [if_pos (fetch0_1 t0_0)]; rfl

omit [FloatOps F] in
/-- A whole staging buffer owned at contents `X`. -/
theorem owns_whole (b : Ref sig .tc) (X : b.ty.Contents (Elt F)) :
    (owns (c : Thread nD τ) (Memref.whole b) fullShare X : sProp 𝕄) = iprop(∃ f, ⌜f = X⌝ ∗ (((c : Thread nD τ).loc b) ↦{fullShare} f)) := by
  unfold owns; simp only [Memref.view_whole, View.read_whole, View.set_whole]

/-- A staging buffer at contents `X`. -/
def stg (b : Ref sig .tc) (X : b.ty.Contents (Elt F)) : sProp 𝕄 := iprop(∃ f, ⌜f = X⌝ ∗ (((c : Thread nD τ).loc b) ↦{fullShare} f))

set_option maxRecDepth 4000 in
def bodyPre : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
set_option maxRecDepth 4000 in
def bodyPost : sProp 𝕄 :=
  iprop(Φ₁ c ∗ (dats m ρ 0 c).owesAt () t0_0.succ
    ∗ stg c cc0_stg0_0 (xstg m ρ c) ∗ stg c cc0_stg1_0 (wstg m ρ c) ∗ stg c cc0_stg2_0 (finalOut m ρ))

set_option maxRecDepth 4000 in
theorem left_post : left m ρ c ⊢ bodyPost m ρ c := by
  refine BIBase.Entails.trans (hand_back m ρ c) ?_
  unfold bodyPost stg wPts owesE
  iintro ⟨⟨%W, HO⟩, HΦ, HX, HW, HR⟩
  isplitl [HΦ]; · iexact HΦ
  isplitl [HO]
  · unfold Dat.owesAt Pipeline.owesWithin
    rw [show (dats m ρ 0 c).owed t0_0.succ = 0 from rfl]
    iexists W
    isplitr; · ipureintro; exact fun _ _ => Or.inl trivial
    iexact HO
  isplitl [HX]; · iexists xstg m ρ c; isplitr; · ipureintro; rfl
                  iexact HX
  isplitl [HW]; · iexists wstg m ρ c; isplitr; · ipureintro; rfl
                  iexact HW
  iexists finalOut m ρ; isplitr; · ipureintro; rfl
  iexact HR

set_option maxRecDepth 4000 in
theorem body_pre :
    bodyPre m ρ c ⊢ WP c (cc0_body xM (Memref.isWhole_whole _) wM (Memref.isWhole_whole _) oM (Memref.isWhole_whole _) rM (Memref.isWhole_whole _)
          cc0_scratch1 cc0_scratch2 cc0_scratch3 cc0_scratch4) fun _ => bodyPost m ρ c := by
  unfold bodyPre Φ₀ start stg
  iintro ⟨⟨⟨⟨%K, #HE, HP, HT⟩, HC⟩, HS⟩, Ho, ⟨%dx, %fx, %hx, HX⟩, ⟨%dw, %fw, %hw, HW⟩, %dO, %fo, %ho, HO⟩
  rw [before_x] at hx
  rw [before_w] at hw
  subst hx; subst hw
  unfold Dat.owesAt Pipeline.owesWithin
  icases Ho with ⟨%W, %hW, Ho⟩
  rw [show (dats m ρ 0 c).owed t0_0.castSucc = O₀ c from rfl]
  iapply (body_run m ρ K c fun _ => bodyPost m ρ c)
  isplitr; · iexact HE
  isplitl [Ho]; · unfold owesE; iexists W; iexact Ho
  iapply (hand_over m ρ c)
  isplitl [HP HT]
  · isplitl [HP]; · iexact HP
    iexact HT
  isplitl [HC]; · iexact HC
  isplitl [HS]; · iexact HS
  isplitl [HX]; · iexact HX
  isplitl [HW]; · unfold wPts; iexact HW
  isplitl [HO]; · iexists fo; iexact HO
  iapply (left_post m ρ c)

set_option maxRecDepth 4000 in
/-- The pipeline's obligation on the body, on device `c`. -/
theorem body_obligation : BodyObligation (dats (F := F) m ρ 0 c) (defs₀ (F := F)) 𝒱₀ () Set.univ := fun t => by
  rw [fin_N0 t]
  rw [bigSep_W0, bigSep_W0]
  simp only [owns_whole]
  exact body_pre m ρ c

end Cert.KernelIdeal.Own

end
-- ==== Proof.IdealLaunch.lean ====
/-
The run of the program on the eight devices: the launch hands every device its cells' positions, the tokens of the duties
it pays its peers and the credit of what they owe it; the body's obligation then closes the run.
-/
module

public import proofs.«01_k».proof.Proof.IdealHandover
public import Idealize.ShloMosaic.Lib.Pipeline.CollectiveSegs

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's elements -/

theorem ownSemFacts : Pipeline.OwnSemFacts cfg0.spec osem := by decide +kernel

theorem share_eq (c : Dev nD) (w : Fin cfg0.W) : (dats m ρ 0 c).share w = fullShare := by unfold Dat.share; split <;> rfl

/-- Every cell of the protocol. -/
def allCells : Finset (GSem nD τ sig) := Finset.univ.map ⟨kcell, kcell_inj⟩

/-- A device's own cells' duties: its barrier's seven, and one at each cell of the four families. -/
abbrev TK : Type := Fin 7 ⊕ Fin 4 × Fin 7
abbrev tokOf : Dev nD × TK → GSem nD τ sig × ℕ × Fin 7
  | (c, .inl i) => (barCell c, 0, i)
  | (c, .inr x) => (dCell x.1 x.2 c, 0, 0)
theorem tokOf_inj : Function.Injective tokOf := by
  rintro ⟨c, i | x⟩ ⟨c', j | y⟩ h
  · have h1 : c = c' := congrArg (fun t : GSem nD τ sig × ℕ × Fin 7 => t.1.1.1) h
    have h2 : i = j := congrArg (fun t : GSem nD τ sig × ℕ × Fin 7 => t.2.2) h
    rw [h1, h2]
  · exact absurd (congrArg (fun t : GSem nD τ sig × ℕ × Fin 7 => t.1.2) h) (fun h' => by cases h')
  · exact absurd (congrArg (fun t : GSem nD τ sig × ℕ × Fin 7 => t.1.2) h) (fun h' => by cases h')
  · have h1 : c = c' := congrArg (fun t : GSem nD τ sig × ℕ × Fin 7 => t.1.1.1) h
    have h2 : SemLoc.dma (dS x.1 x.2) = SemLoc.dma (dS y.1 y.2) := congrArg (fun t : GSem nD τ sig × ℕ × Fin 7 => t.1.2) h
    rw [h1, show x = y from dS_inj (SemLoc.dma.inj h2)]
def allToks : Finset (GSem nD τ sig × ℕ × Fin 7) := Finset.univ.map ⟨tokOf, tokOf_inj⟩

def u₀ : UU :=
  (initOf (Pipeline.cells cfgs cellOf_inj) (Pipeline.launchToks cfgs cellOf_inj), initOf allCells allToks)

/-- The tokens of the duties at a device's own cells. -/
def ownToks (c : Dev nD) : sProp 𝕄 :=
  iprop((bigSep Finset.univ fun i => dutyTok ER (barCell c) 0 i) ∗ bigSep Finset.univ fun x : Fin 4 × Fin 7 => dutyTok ER (dCell x.1 x.2 c) 0 0)

/-- What the launch's element deals device `c`. -/
def G (c : Dev nD) : sProp 𝕄 :=
  iprop((bigSep Finset.univ fun k : CK => roundState ER (sched m ρ) (kcell (c, k)) 0)
    ∗ (bigSep Finset.univ fun k : CK => iprop(atPos ER (kcell (c, k)) 0 ∅ 0 ∗ reached ER (kcell (c, k)) 0)) ∗ ownToks c)

/-- Every cell's invariant, and that it has reached its round. -/
def records (K : Dev nD × CK → ℕ) : sProp 𝕄 :=
  bigSep Finset.univ fun ck : Dev nD × CK => iprop(cellInv ER (sched m ρ) (K ck) (kcell ck) ∗ reached ER (kcell ck) 0)
instance records_persistent (K : Dev nD × CK → ℕ) : BI.Persistent (records (F := F) m ρ K) := by unfold records; infer_instance

/-- What the devices together make of it, for device `c`. -/
def G' (c : Dev nD) : sProp 𝕄 := iprop(∃ K, records m ρ K ∗ places c ∗ payToks c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by unfold ownToks; rw [bigSep_univ_sum]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores, and the cells' invariants -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

omit [FloatOps F] in
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, show (bigSep Finset.univ fun k : CK => (semVal (kcell (c, k)) 0 : sProp 𝕄))
      = iprop(semVal (barCell c) 0 ∗ bigSep Finset.univ fun x : Fin 4 × Fin 7 => semVal (dCell x.1 x.2 c) 0) from by
    rw [bigSep_univ_sum, bigSep_univ_of_subsingleton ()]; rfl]
  unfold Pipeline.ownSems0
  iintro ⟨HS, HB⟩
  isplitl [HB]; · iexact HB
  iexact HS

theorem inv_at (c : Dev nD) (k : CK) :
    iprop(semVal (kcell (c, k)) 0 ∗ roundState ER (sched m ρ) (kcell (c, k)) 0)
      ⊢ (|={Set.univ}=> iprop(∃ κ : ℕ, cellInv ER (sched m ρ) κ (kcell (c, k))) : sProp 𝕄) :=
  (Rounds.body_intro ER (sched m ρ) (kcell (c, k))).trans inv_alloc

theorem invs (c : Dev nD) :
    iprop((bigSep Finset.univ fun k : CK => semVal (kcell (c, k)) 0) ∗ bigSep Finset.univ fun k : CK => roundState ER (sched m ρ) (kcell (c, k)) 0)
      ⊢ (|={Set.univ}=> bigSep Finset.univ fun k : CK => iprop(∃ κ : ℕ, cellInv ER (sched m ρ) κ (kcell (c, k))) : sProp 𝕄) := by
  rw [← bigSep_sep']
  exact (bigSep_mono fun k _ => inv_at m ρ c k).trans (bigSep_fupd _ _)

/-- What one device holds once its cells' invariants are made. -/
def made (c : Dev nD) : sProp 𝕄 :=
  iprop((bigSep Finset.univ fun k : CK => iprop(∃ κ : ℕ, cellInv ER (sched m ρ) κ (kcell (c, k))))
    ∗ (bigSep Finset.univ fun k : CK => iprop(atPos ER (kcell (c, k)) 0 ∅ 0 ∗ reached ER (kcell (c, k)) 0)) ∗ ownToks c)

theorem make (c : Dev nD) :
    iprop(Pipeline.ownSems0 (Ix := Unit) (Name := ℕ) (U := UU) (Lvl := ℕ) (Val := Elt F) (τ := τ) osem c ∗ unscopedSems0 c ∗ G m ρ c)
      ⊢ |={Set.univ}=> made m ρ c := by
  unfold G made
  iintro ⟨Hos, Hus, Hst, Hat, Htok⟩
  ihave Hv := (sems0 (F := F) c) $$ [Hos Hus]
  · isplitl [Hos] <;> iassumption
  imod (invs m ρ c) $$ [Hv Hst] with Hinv
  · isplitl [Hv] <;> iassumption
  imodintro
  isplitl [Hinv]; · iexact Hinv
  isplitl [Hat]; · iexact Hat
  iexact Htok

/-! ## The tokens dealt to those who pay, the positions listed -/

/-- What every device holds of every mask, each peer may hold of it instead. -/
theorem deal_around (Φ : Dev nD → Fin 7 → sProp 𝕄) :
    (bigSep Finset.univ fun c => bigSep Finset.univ fun i => Φ c i) = bigSep Finset.univ fun c => bigSep Finset.univ fun i => Φ (peer i c) i := by
  rw [← bigSep_univ_prod fun x : Dev nD × Fin 7 => Φ x.1 x.2, bigSep_univ_equiv swaps fun x : Dev nD × Fin 7 => Φ x.1 x.2, bigSep_univ_prod]
  rfl

/-- The four families listed. -/
theorem families (Φ : Fin 4 × Fin 7 → sProp 𝕄) :
    bigSep Finset.univ Φ = iprop((bigSep Finset.univ fun i => Φ (0, i)) ∗ (bigSep Finset.univ fun i => Φ (1, i))
      ∗ (bigSep Finset.univ fun i => Φ (2, i)) ∗ bigSep Finset.univ fun i => Φ (3, i)) := by
  rw [bigSep_univ_prod, bigSep_univ_eq_bigSepL [(0 : Fin 4), 1, 2, 3] (by decide) (by decide)]
  rfl

theorem toks_around : (bigSep Finset.univ fun c : Dev nD => (ownToks c : sProp 𝕄)) = bigSep Finset.univ fun c : Dev nD => payToks c := by
  unfold ownToks payToks
  simp only [families]
  rw [bigSep_sep', bigSep_sep', bigSep_sep', bigSep_sep', bigSep_sep', bigSep_sep', bigSep_sep', bigSep_sep',
    deal_around fun c i => dutyTok ER (barCell c) 0 i, deal_around fun c i => dutyTok ER (dCell 1 i c) 0 0,
    deal_around fun c i => dutyTok ER (dCell 3 i c) 0 0]

theorem places_eq (c : Dev nD) : (bigSep Finset.univ fun k : CK => (atPos ER (kcell (c, k)) 0 ∅ 0 : sProp 𝕄)) = places c := by
  rw [bigSep_univ_sum, bigSep_univ_of_subsingleton (), families]
  rfl

theorem ghost_intro (K : Dev nD × CK → ℕ) (c : Dev nD) : iprop(records m ρ K ∗ places c ∗ payToks c) ⊢ G' m ρ c := by
  unfold G'
  iintro H
  iexists K
  iexact H

theorem regroup : (bigSep Finset.univ (made m ρ)) ⊢ bigSep Finset.univ (G' m ρ) := by
  unfold made
  rw [bigSep_sep', bigSep_sep', ← bigSep_univ_prod (fun ck : Dev nD × CK => iprop(∃ κ : ℕ, cellInv ER (sched m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_around,
    bigSep_congr (s := Finset.univ) (fun (c : Dev nD) _ => places_eq c)]
  iintro ⟨HI, ⟨Hat, HR⟩, Htok⟩
  ihave HK := (BI.bigSep_exists_pi Finset.univ (fun (ck : Dev nD × CK) (κ : ℕ) => (cellInv ER (sched m ρ) κ (kcell ck) : sProp 𝕄))) $$ HI
  icases HK with ⟨%K, HI⟩
  ihave HC := (show iprop((bigSep Finset.univ fun ck : Dev nD × CK => cellInv ER (sched m ρ) (K ck) (kcell ck)) ∗ bigSep Finset.univ fun ck : Dev nD × CK => reached ER (kcell ck) 0)
      ⊢ records m ρ K from Entails.of_eq (bigSep_sep' _ _ _).symm) $$ [HI HR]
  · isplitl [HI] <;> iassumption
  icases HC with #HC
  iapply (BI.bigSep_with_persistent (R := records m ρ K) fun c _ => ghost_intro m ρ K c)
  isplitr; · iexact HC
  iapply (Entails.of_eq (bigSep_sep' Finset.univ (fun c : Dev nD => (places c : sProp 𝕄)) payToks).symm)
  isplitl [Hat]; · iexact Hat
  iexact Htok

/-- The devices' semaphores, all at once, become the cells. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => make m ρ c).trans (bigSep_fupd _ _)).trans (BI.fupd_mono (regroup m ρ))

/-! ## The credit -/

/-- What all devices together owe a cell `t`, each owing `n` at its peer's cell `g i`: `n` for every mask and device whose cell it is. -/
theorem owed_all (g : Fin 7 → Dev nD → GSem nD τ sig) (n : ℕ) (t : GSem nD τ sig) :
    (∑ d : Dev nD, oSum (fun i => g i (peer i d)) n Finset.univ t ()) = ∑ i : Fin 7, ∑ d : Dev nD, if t = g i d then n else 0 := by
  have h (d : Dev nD) : oSum (fun i => g i (peer i d)) n Finset.univ t () = ∑ i : Fin 7, if t = g i (peer i d) then n else 0 := by
    unfold oSum
    rw [Finset.sum_apply, Finsupp.finset_sum_apply]
    refine Finset.sum_congr rfl fun i _ => ?_
    rw [tallyAt_apply]
    simp only [and_true]
  rw [Finset.sum_congr rfl fun d _ => h d, Finset.sum_comm]
  exact Finset.sum_congr rfl fun i _ => Equiv.sum_comp (swap i) fun d => if t = g i d then n else 0

theorem owed_bar (c : Dev nD) : (∑ d : Dev nD, oBar d Finset.univ (barCell c) ()) = 7 := by
  rw [owed_all (fun _ d => barCell d)]
  have h (d : Dev nD) : (if barCell c = barCell d then 1 else 0) = if c = d then 1 else 0 :=
    if_congr ⟨fun h => congrArg (fun g : GSem nD τ sig => g.1.1) h, fun h => h ▸ rfl⟩ rfl rfl
  rw [Finset.sum_congr rfl fun i _ => (Finset.sum_congr rfl fun d _ => h d).trans (Finset.sum_ite_eq Finset.univ c fun _ => 1)]
  simp only [Finset.mem_univ, if_true, Finset.sum_const, Finset.card_univ, Fintype.card_fin, smul_eq_mul, Nat.mul_one]

theorem owed_dma (a : Fin 4) (j : Fin 7) (c : Dev nD) :
    (∑ d : Dev nD, oSum (fun i => dCell a i (peer i d)) N Finset.univ (dCell a j c) ()) = N := by
  rw [owed_all (fun i d => dCell a i d)]
  have h (i : Fin 7) (d : Dev nD) : (if dCell a j c = dCell a i d then N else 0) = if c = d then (if j = i then N else 0) else 0 := by
    by_cases hd : c = d
    · rw [if_pos hd]
      refine if_congr ⟨fun h => ?_, fun h => by rw [h, hd]⟩ rfl rfl
      have h2 : SemLoc.dma (dS a j) = SemLoc.dma (dS a i) := congrArg Prod.snd h
      exact congrArg Prod.snd (dS_inj (a₁ := (a, j)) (a₂ := (a, i)) (SemLoc.dma.inj h2))
    · rw [if_neg hd, if_neg fun h => hd (congrArg (fun g : GSem nD τ sig => g.1.1) h)]
  rw [Finset.sum_congr rfl fun i _ => (Finset.sum_congr rfl fun d _ => h i d).trans (Finset.sum_ite_eq Finset.univ c fun _ => if j = i then N else 0)]
  simp only [Finset.mem_univ, if_true]
  rw [Finset.sum_ite_eq, if_pos (Finset.mem_univ _)]

omit [FloatOps F] in
theorem credit_at (O : Dev nD → CellTallies nD τ sig Unit) (g : GSem nD τ sig) {n : ℕ} (h : (∑ d : Dev nD, O d g ()) = n) :
    tallyOn g (launchCredit (Pipeline.owing O) 0 g) = (tallyAt g () n : CellTallies nD τ sig Unit) := by
  unfold tallyAt; refine congrArg _ (Finsupp.ext fun u => ?_); cases u
  rw [Pipeline.launchCredit_owing, Finsupp.single_eq_same, h]

theorem cred_bar (c : Dev nD) : (Pipeline.launchCred (fun d => oBar d Finset.univ) c : sProp 𝕄) ⊢ cred (tallyAt (barCell c) () 7) := by
  rw [← credit_at (fun d => oBar d Finset.univ) (barCell c) (owed_bar c)]
  exact Pipeline.launchCred_elim _ c (.reg barS)

/-- A family's semaphores. -/
def famSems (a : Fin 4) : Fin 7 ↪ SemLoc sig := ⟨fun i => .dma (dS a i), fun i j h =>
  congrArg Prod.snd (dS_inj (a₁ := (a, i)) (a₂ := (a, j)) (SemLoc.dma.inj h))⟩

theorem cred_fam (a : Fin 4) (c : Dev nD) :
    (Pipeline.launchCred (fun d => oSum (fun i => dCell a i (peer i d)) N Finset.univ) c : sProp 𝕄)
      ⊢ bigSep Finset.univ fun i => cred (tallyAt (dCell a i c) () N) := by
  refine BI.Entails.trans (bigSep_subset (t := Finset.univ.map (famSems a)) (Finset.subset_univ _)) ?_
  rw [bigSep_map]
  exact bigSep_mono fun i _ => Entails.of_eq (congrArg cred (credit_at _ (dCell a i c) (owed_dma a i c)))

theorem creds (c : Dev nD) : (Pipeline.launchCred O₀ c : sProp 𝕄) ⊢ credits c := by
  rw [show (Pipeline.launchCred O₀ c : sProp 𝕄) = iprop((Pipeline.launchCred (fun d => oGath d Finset.univ) c ∗ Pipeline.launchCred (fun d => oScat d Finset.univ) c)
      ∗ Pipeline.launchCred (fun d => oBar d Finset.univ) c) from by
    rw [← Pipeline.launchCred_add, ← Pipeline.launchCred_add]; rfl]
  unfold credits
  iintro ⟨⟨HG, HS⟩, HB⟩
  isplitl [HB]; · iapply (cred_bar c); iexact HB
  isplitl [HS]; · iapply (cred_fam 1 c); iexact HS
  iapply (cred_fam 3 c); iexact HG

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G'
  iintro ⟨-, Hlev, Hcr, -, %K, HR, HP⟩
  ihave Hc := (creds (F := F) c) $$ Hcr
  imodintro
  isplitl
  · isplitl [Hlev HR HP]
    · iexists K
      isplitl [Hlev HR]
      · unfold env
        isplitl [HR]; · unfold records; iexact HR
        iexact Hlev
      iexact HP
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ Pipeline.ownSems0
  iintro ⟨Hr, HzB, HzS⟩
  isplitl [HzB]; · iexact HzB
  isplitl [HzS]; · iexact HzS
  iexact Hr

theorem waits (c : Dev nD) : (levAts L lv : sProp 𝕄) ⊢ Pipeline.cellsWaits cfgs (dats m ρ) () 0 c :=
  Pipeline.cellsWaits_intro cfgs (dats m ρ) () 0 c fun w s t =>
    mayWait c _ (n := 0) (by fin_cases w <;> fin_cases s <;> decide) (by
      rcases t with ⟨_ | _, ht⟩
      · exact above_O₀ c
      · exact Above.zero 0)

/-! ## The run -/

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero, on the eight devices: every fair run ends, with every window's array at
    its computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Own

end
-- ==== Proof.IdealResult.lean ====
/-
What the run leaves in the arrays: the operands unchanged, and on every device the result whose chunks the eight devices
computed.
-/
module

public import proofs.«01_k».proof.Proof.IdealLaunch

@[expose] public section

noncomputable section

namespace Cert.KernelIdeal.Own

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The only block of the first operand is the whole of it, so the staged block is the operand; -/
theorem xstg_eq (c : Dev nD) : xstg m ρ c = m ((c : Thread nD τ).loc main_arg0) := by
  have he : ∀ y : S1024x512.Idx, (win0_0.blk (0 : Fin 1)).view.emb y = y := fun y =>
    funext fun a => Fin.ext ((ValueKit.rect_emb_unit_val (s := S1024x512) _ _ _ y a).trans ((congrArg (· + (y a).val) (Nat.zero_mul _)).trans (Nat.zero_add _)))
  funext y
  show m ((c : Thread nD τ).loc main_arg0) ((win0_0.blk (0 : Fin 1)).view.emb y) = _
  rw [he]

/-- so are the weights. -/
theorem wstg_eq (c : Dev nD) : wstg m ρ c = m ((c : Thread nD τ).loc main_arg1) := by
  have he : ∀ y : S512x512.Idx, (win0_1.blk (0 : Fin 1)).view.emb y = y := fun y =>
    funext fun a => Fin.ext ((ValueKit.rect_emb_unit_val (s := S512x512) _ _ _ y a).trans ((congrArg (· + (y a).val) (Nat.zero_mul _)).trans (Nat.zero_add _)))
  funext y
  show m ((c : Thread nD τ).loc main_arg1) ((win0_1.blk (0 : Fin 1)).view.emb y) = _
  rw [he]

/-- The place of an element of the result's only block is the element's own. -/
theorem out_emb (t : Fin cfg0.N) (y : S1024x512.Idx) : ((cfg0.win 2).blk t).view.emb y = y :=
  funext fun a => Fin.ext ((ValueKit.rect_emb_unit_val (s := S1024x512) _ _ _ y a).trans ((congrArg (· + (y a).val) (Nat.zero_mul _)).trans (Nat.zero_add _)))

theorem flushed_eq (c : Dev nD) (t : Fin cfg0.N) :
    (dats m ρ 0 c).flushed (2 : Fin 3) t = ((cfg0.win 2).blk t).view.read (Elt F) (finalOut m ρ) := by
  obtain rfl := fin_N0 t
  have ha : (dats m ρ 0 c).after (2 : Fin 3) t0_0 = finalOut m ρ := rfl
  unfold Pipeline.Dat.flushed
  rw [ha]
  funext y
  exact congrArg (finalOut m ρ) (out_emb t0_0 y).symm

theorem cover (i : S1024x512.Idx) : ∃ t : Fin cfg0.N, (cfg0.win 2).flush t = true ∧ i ∈ ((cfg0.win 2).blk t).view.set :=
  ⟨t0_0, flush0_2 _, by have h := ((cfg0.win 2).blk t0_0).view.emb_mem_set i; rwa [out_emb] at h⟩

theorem finalA_arg0 (c : Dev nD) : finalA m ρ c 0 = m ((c : Thread nD τ).loc main_arg0) := (dats m ρ 0 c).arrAt_in (0 : Fin 3) rfl _
theorem finalA_arg1 (c : Dev nD) : finalA m ρ c 1 = m ((c : Thread nD τ).loc main_arg1) := (dats m ρ 0 c).arrAt_in (1 : Fin 3) rfl _
theorem finalA_v1 (c : Dev nD) : finalA m ρ c 2 = finalOut m ρ :=
  (dats m ρ 0 c).arrAt_eq_of_cover 2 (finalOut m ρ) (fun t _ => flushed_eq m ρ c t) cover

/-- Every fair run of the kernel ends; every device then holds the result, its operands unchanged, and every semaphore is
    at zero. -/
theorem run_result : θ_run defs (onTc (τ := τ) (main (F := F))) ⟨m, fun _ => 0, ρ⟩ (fun r =>
    (∀ c : Dev nD, r.2.mem ((c.tc : Thread nD τ).loc main_v1) = finalOut m ρ
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun r h => ⟨fun c => ⟨(h.1 c 2).trans (finalA_v1 m ρ c), (h.1 c 0).trans (finalA_arg0 m ρ c),
    (h.1 c 1).trans (finalA_arg1 m ρ c)⟩, h.2⟩) (run_main m ρ)

/-- The frame: the same run, the result's contents left out. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun r h => ⟨fun c => (h.1 c).2, h.2⟩) (run_result m ρ)

end Cert.KernelIdeal.Own

end
-- ==== Proof.IdealValue.lean ====
/-
The value: at the extended reals the result of the kernel is the product of the sum of the eight blocks with the weights,
which is what the reference computes.

Device `c` adds its own rows of chunk `chunkOf c` and its seven peers', in the order of arrival; the eight devices listed
from `c` are all the devices, so the sum is the sum over the devices in any order.
-/
module

public import proofs.«01_k».proof.Proof.IdealResult
public import proofs.«01_k».proof.Proof.Gen.ReferenceIdeal.Run
public import Idealize.ShloMosaic.Lib.Pointwise
public import Idealize.ShloMosaic.Lib.Layout

@[expose] public section

noncomputable section

namespace Cert.KernelIdeal.Own

open Cert.KernelIdeal Cert.KernelIdeal.Gen
open Idealize.ShloMosaic
open Idealize.ShloMosaic.TcCoe
open Idealize.SL.Sem

variable (m : (ℓ : Loc nD τ sig) → Buf (Elt Ideal) ℓ) (ρ : Dev nD → PrngReg)

/-- Device `d`'s block of the operand, at an element. -/
abbrev block (d : Dev nD) (y : S1024x512.Idx) : EReal := m ((d : Thread nD τ).loc main_arg0) y
/-- What device `d` holds of chunk `q` at place `(r, k)`. -/
abbrev held (d : Dev nD) (q : Fin 8) (r : Fin 128) (k : Fin 512) : EReal := block m d (rowIx q (ix2 r k))

theorem ownVal_apply (c : Dev nD) (r : Fin 128) (k : Fin 512) : ownVal m ρ c (ix2 r k) = held m c (chunkOf c) r k := by
  unfold ownVal; rw [xstg_eq]

/-- The element of a landing slot `i` at `(r, k)` is the peer's, at its rows of the device's own chunk. -/
theorem slotVal_apply (c : Dev nD) (i : Fin 7) (r : Fin 128) (k : Fin 512) :
    slotVal m ρ c i (ix3 0 r k) = held m (peer i c) (chunkOf c) r k := by
  have h0 : (slotRect i).emb (ix3 0 r k) (0 : Fin 3) = i :=
    Fin.ext (ValueKit.rect_emb_unit_val (s := S7x128x512) (slotOff i) S1x128x512.size (slot_inb i) (ix3 0 r k) 0)
  have h1 : (slotRect i).emb (ix3 0 r k) (1 : Fin 3) = r :=
    Fin.ext ((ValueKit.rect_emb_unit_val (s := S7x128x512) (slotOff i) S1x128x512.size (slot_inb i) (ix3 0 r k) 1).trans (Nat.zero_add _))
  have h2 : (slotRect i).emb (ix3 0 r k) (2 : Fin 3) = k :=
    Fin.ext ((ValueKit.rect_emb_unit_val (s := S7x128x512) (slotOff i) S1x128x512.size (slot_inb i) (ix3 0 r k) 2).trans (Nat.zero_add _))
  unfold slotVal landed
  rw [xstg_eq, h0]
  refine congrArg _ (congrArg _ ?_)
  funext a
  fin_cases a
  · exact h1
  · exact h2

/-- The sum in the order of arrival is the sum over the devices. -/
theorem sum_around (c : Dev nD) (f : Dev nD → EReal) :
    f c + f (peer 0 c) + f (peer 2 c) + f (peer 3 c) + f (peer 1 c) + f (peer 4 c) + f (peer 6 c) + f (peer 5 c) = ∑ d, f d := by
  rw [← (around c).sum_comp, Fintype.sum_option, Fin.sum_univ_seven]
  show _ = f c + (f (peer 0 c) + f (peer 1 c) + f (peer 2 c) + f (peer 3 c) + f (peer 4 c) + f (peer 5 c) + f (peer 6 c))
  abel

/-- The chunk device `c` computes, at a place: the product of the summed rows with the weights. -/
theorem result_apply (c : Dev nD) (r : Fin 128) (l : Fin 512) :
    result m ρ c (ix2 r l) = ∑ k : Fin 512, (∑ d, held m d (chunkOf c) r k) * m ((c : Thread nD τ).loc main_arg1) (ix2 k l) := by
  unfold result
  rw [wstg_eq]
  generalize m ((c : Thread nD τ).loc main_arg1) = w
  unfold_payloads
  pointwise
  pointwise
  simp only [ownVal_apply, slotVal_apply]
  exact Finset.sum_congr rfl fun k _ => congrArg (· * w (ix2 k l)) (sum_around c fun d => held m d (chunkOf c) r k)

/-- Place `(row mod 128, k)` of the chunk of a row is the row's own. -/
theorem rowIx_place (R : Fin 1024) (l k : Fin 512) :
    rowIx (chunkAt (ix2 R l)) (ix2 ⟨R.val % 128, Nat.mod_lt _ (by decide)⟩ k) = ix2 R k := by
  funext a
  fin_cases a
  · refine Fin.ext ((rowIx_val0 _ _).trans ?_)
    show 128 * (R.val / 128) + R.val % 128 = R.val
    omega
  · exact Fin.ext (rowIx_val1 _ _)

/-- The result every device ends with, when every device holds the same weights `W`. -/
theorem finalOut_apply (W : S512x512.Idx → EReal) (hW : ∀ c : Dev nD, m ((c : Thread nD τ).loc main_arg1) = W)
    (R : Fin 1024) (l : Fin 512) :
    finalOut m ρ (ix2 R l) = ∑ k : Fin 512, (∑ d : Dev nD, block m d (ix2 R k)) * W (ix2 k l) := by
  have hp : placeAt (ix2 R l) = ix2 ⟨R.val % 128, Nat.mod_lt _ (by decide)⟩ l := by
    funext a; fin_cases a <;> rfl
  unfold finalOut
  rw [hp, result_apply, chunkOf_ownerOf, hW]
  simp only [held, rowIx_place]

/-- The reference's result: the eight blocks of `X` summed, times `W`. -/
abbrev refOut (X : Cert.ReferenceIdeal.S8192x512.Idx → EReal) (W : Cert.ReferenceIdeal.S512x512.Idx → EReal) :
    Cert.ReferenceIdeal.S1024x512.Idx → EReal :=
  Host.dotGeneral (F := Ideal) (φ₁ := .f32) (φ₂ := .f32) Cert.ReferenceIdeal.dot_S1024x512_S512x512_S1024x512_1_0_0_1_n_n none
    (Host.reduceAdd (F := Ideal) (φ := .f32) (shapeCast _ X Cert.ReferenceIdeal.Gen.shapeCasts_S8192x512_S8x1024x512)
      (constant Cert.ReferenceIdeal.S_ .f32 0x00000000#32) Cert.ReferenceIdeal.Gen.reducesTo_S8x1024x512_S1024x512_d0 Cert.ReferenceIdeal.Gen.h_S_) W

/-- Its element in row `R` and column `l`: row `R` of every block, summed, times the column. -/
theorem refOut_apply (X : Cert.ReferenceIdeal.S8192x512.Idx → EReal) (W : Cert.ReferenceIdeal.S512x512.Idx → EReal)
    (R : Fin 1024) (l : Fin 512) :
    refOut X W (ix2 R l) = ∑ k : Fin 512, (∑ d : Fin 8, X (ix2 ⟨d.val * 1024 + R.val, by omega⟩ k)) * W (ix2 k l) := by
  unfold refOut
  pointwise

/-- Where every device holds its block of rows of `X` and all of `W`, every device ends with the reference's result. -/
theorem finalOut_eq (X : Cert.ReferenceIdeal.S8192x512.Idx → EReal) (W : Cert.ReferenceIdeal.S512x512.Idx → EReal)
    (hX : ∀ c : Dev nD, m ((c : Thread nD τ).loc main_arg0) = Layout.block ⟨2, ![1024, 512]⟩ ⟨2, ![8192, 512]⟩ 0 8 c X)
    (hW : ∀ c : Dev nD, m ((c : Thread nD τ).loc main_arg1) = W) : finalOut m ρ = refOut X W := by
  funext j
  rw [eq_ix2 j]
  refine (finalOut_apply m ρ W hW (j 0) (j 1)).trans ((Finset.sum_congr rfl fun k _ => congrArg (· * W (ix2 k (j 1)))
    (Finset.sum_congr rfl fun d _ => ?_)).trans (refOut_apply X W (j 0) (j 1)).symm)
  show block m d (ix2 (j 0) k) = _
  unfold block
  rw [hX d, Layout.block_apply]
  refine congrArg X (funext fun a => ?_)
  fin_cases a <;> rfl

end Cert.KernelIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.BitsResult
public import proofs.«01_k».proof.Proof.IdealValue
public import Idealize.ShloMosaic.Adequacy
public import Idealize.ShloMosaic.Init

@[expose] public section

noncomputable section

namespace Cert.Proof

open Idealize.ShloMosaic Idealize.SL.Sem

/-- The kernel's frame, at the bit-exact floats and at the extended reals: the run of BitsResult.lean and IdealResult.lean. -/
theorem frame_p : Cert.quiescent_Kernel (hKernel := Cert.Kernel.Gen.facts) := fun m ρ _ => Cert.Kernel.Own.frame (F := Bits) m ρ
theorem frame_pi : Cert.quiescent_KernelIdeal (hKernelIdeal := Cert.KernelIdeal.Gen.facts) := fun m ρ _ =>
  Cert.KernelIdeal.Own.frame (F := Ideal) m ρ

/-- The reference's frame: its operations' run, which has no semaphore. -/
theorem frame_ri : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The value: on every device the kernel's result is the whole of the reference's. -/
theorem value : Cert.algebraic_KernelIdeal_ReferenceIdeal (hKernelIdeal := Cert.KernelIdeal.Gen.facts)
    (hReferenceIdeal := Cert.ReferenceIdeal.Gen.facts) := fun m ρ m' ρ' _ hargs =>
  ⟨Cert.KernelIdeal.Own.refOut _ _,
    (θ_run Cert.KernelIdeal.defs _ _).mono
      (fun r h c => ⟨(h.1 c).1.trans (Cert.KernelIdeal.Own.finalOut_eq m ρ _ _ (fun c => (hargs c).1) (fun c => (hargs c).2)), (h.1 c).2⟩)
      (Cert.KernelIdeal.Own.run_result (F := Ideal) m ρ),
    (θ_run Cert.ReferenceIdeal.defs _ _).mono (fun r h => h 0) (Cert.ReferenceIdeal.Value.run (F := Ideal) m' ρ')⟩

theorem claim : Cert.Claim := ⟨Cert.Kernel.Gen.facts, Cert.KernelIdeal.Gen.facts, Cert.ReferenceIdeal.Gen.facts,
  frame_p, frame_pi, frame_ri, trivial, value⟩

end Cert.Proof

end
